-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x1920 : Shape := ⟨3, ![256, 1, 1920]⟩
abbrev S256x1x1 : Shape := ⟨3, ![256, 1, 1]⟩
abbrev S7808x1920 : Shape := ⟨2, ![7808, 1920]⟩
abbrev S7808 : Shape := ⟨1, ![7808]⟩
abbrev S256x1920 : Shape := ⟨2, ![256, 1920]⟩
abbrev S1x256 : Shape := ⟨2, ![1, 256]⟩
abbrev S256x7808 : Shape := ⟨2, ![256, 7808]⟩
abbrev S_ : Shape := ⟨0, ![]⟩
abbrev S8 : Shape := ⟨1, ![8]⟩
abbrev S1 : Shape := ⟨1, ![1]⟩
abbrev S1024x1920 : Shape := ⟨2, ![1024, 1920]⟩
abbrev S640x1920 : Shape := ⟨2, ![640, 1920]⟩
abbrev S256x1 : Shape := ⟨2, ![256, 1]⟩
abbrev S256x1024 : Shape := ⟨2, ![256, 1024]⟩
abbrev S1024 : Shape := ⟨1, ![1024]⟩
abbrev S1x1024 : Shape := ⟨2, ![1, 1024]⟩
abbrev S256x640 : Shape := ⟨2, ![256, 640]⟩
abbrev S640 : Shape := ⟨1, ![640]⟩
abbrev S1x640 : Shape := ⟨2, ![1, 640]⟩
abbrev S256x1x7808 : Shape := ⟨3, ![256, 1, 7808]⟩

abbrev nBuf : Space → Nat
  | .hbm => 8
  | .vmem => 5
  | .smem => 0
  | _ => 0

abbrev bufTy : (tb : Table) → Fin (tcTables nBuf tb) → BufTy
  | .hbm, ⟨0, _⟩ => ⟨S256x1x1920, .fp8e4m3⟩
  | .hbm, ⟨1, _⟩ => ⟨S256x1x1, .f32⟩
  | .hbm, ⟨2, _⟩ => ⟨S7808x1920, .fp8e4m3⟩
  | .hbm, ⟨3, _⟩ => ⟨S7808, .f32⟩
  | .hbm, ⟨4, _⟩ => ⟨S256x1920, .fp8e4m3⟩
  | .hbm, ⟨5, _⟩ => ⟨S1x256, .f32⟩
  | .hbm, ⟨6, _⟩ => ⟨S256x7808, .bf16⟩
  | .hbm, ⟨7, _⟩ => ⟨S256x1x7808, .bf16⟩
  | .local _ .vmem, ⟨0, _⟩ => ⟨S256x1920, .fp8e4m3⟩
  | .local _ .vmem, ⟨1, _⟩ => ⟨S1x256, .f32⟩
  | .local _ .vmem, ⟨2, _⟩ => ⟨S7808x1920, .fp8e4m3⟩
  | .local _ .vmem, ⟨3, _⟩ => ⟨S7808, .f32⟩
  | .local _ .vmem, ⟨4, _⟩ => ⟨S256x7808, .bf16⟩
  | _, _ => ⟨S256x1x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none
-- ==== ReferenceIdeal.lean ====
abbrev S256x1x1920 : Shape := ⟨3, ![256, 1, 1920]⟩
abbrev S256x1x1 : Shape := ⟨3, ![256, 1, 1]⟩
abbrev S7808x1920 : Shape := ⟨2, ![7808, 1920]⟩
abbrev S7808 : Shape := ⟨1, ![7808]⟩
abbrev S256x1x7808 : Shape := ⟨3, ![256, 1, 7808]⟩
abbrev S1x1x7808 : Shape := ⟨3, ![1, 1, 7808]⟩

abbrev nBuf : Space → Nat
  | .hbm => 5
  | .vmem => 5
  | .smem => 0
  | _ => 0

abbrev bufTy : (tb : Table) → Fin (tcTables nBuf tb) → BufTy
  | .hbm, ⟨0, _⟩ => ⟨S256x1x1920, .fp8e4m3⟩
  | .hbm, ⟨1, _⟩ => ⟨S256x1x1, .f32⟩
  | .hbm, ⟨2, _⟩ => ⟨S7808x1920, .fp8e4m3⟩
  | .hbm, ⟨3, _⟩ => ⟨S7808, .f32⟩
  | .hbm, ⟨4, _⟩ => ⟨S256x1x7808, .bf16⟩
  | .local _ .vmem, ⟨0, _⟩ => ⟨S256x1x1920, .fp8e4m3⟩
  | .local _ .vmem, ⟨1, _⟩ => ⟨S256x1x1, .f32⟩
  | .local _ .vmem, ⟨2, _⟩ => ⟨S7808x1920, .fp8e4m3⟩
  | .local _ .vmem, ⟨3, _⟩ => ⟨S7808, .f32⟩
  | .local _ .vmem, ⟨4, _⟩ => ⟨S256x1x7808, .bf16⟩
  | _, _ => ⟨S256x1x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1x1920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7808x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7808 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1x7808 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Out.lean ====
module

public import proofs.«01_k».proof.Proof.Gen.Kernel.Frame
public import proofs.«01_k».proof.Proof.Gen.Kernel.Skeleton
public import Idealize.ShloMosaic.Lib.Pipeline.FrameSuffixV
public import Idealize.ShloMosaic.Lib.Pipeline.Value
public import Idealize.ShloMosaic.Lib.VecWindow
public import Idealize.ShloMosaic.Lib.Tactic
public import Idealize.ShloMosaic.Lib.Exec

/-!
# The result of the kernel body, as a function of its operands

`outOf` is the result array: eight column chunks, each of one formula of the operands. The lemmas below it read a
buffer back after the copies and stores that filled it.
-/

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body computes -/

/-- The result's column chunks, the last one first: each rectangle with what the body stores there. -/
def outPieces (x : Vec F S256x1920 .fp8e4m3) (xs : Vec F S1x256 .f32) (w : Vec F S7808x1920 .fp8e4m3) (ws : Vec F S7808 .f32) :
    List (View.Piece (Elt F) S256x7808 .bf16) :=
  [⟨Rect.unit ![0, 7168] S256x640.size inb_S256x7808_S256x640_0_7168, k0_pay10 (k0_pay1 xs) x
      (View.ld w (Rect.unit ![7168, 0] S640x1920.size inb_S7808x1920_S640x1920_7168_0))
      (View.ld ws (Rect.unit ![7168] S640.size inb_S7808_S640_7168))⟩,
    ⟨Rect.unit ![0, 6144] S256x1024.size inb_S256x7808_S256x1024_0_6144, k0_pay4 (k0_pay1 xs) x
      (View.ld w (Rect.unit ![6144, 0] S1024x1920.size inb_S7808x1920_S1024x1920_6144_0))
      (View.ld ws (Rect.unit ![6144] S1024.size inb_S7808_S1024_6144))⟩,
    ⟨Rect.unit ![0, 5120] S256x1024.size inb_S256x7808_S256x1024_0_5120, k0_pay4 (k0_pay1 xs) x
      (View.ld w (Rect.unit ![5120, 0] S1024x1920.size inb_S7808x1920_S1024x1920_5120_0))
      (View.ld ws (Rect.unit ![5120] S1024.size inb_S7808_S1024_5120))⟩,
    ⟨Rect.unit ![0, 4096] S256x1024.size inb_S256x7808_S256x1024_0_4096, k0_pay4 (k0_pay1 xs) x
      (View.ld w (Rect.unit ![4096, 0] S1024x1920.size inb_S7808x1920_S1024x1920_4096_0))
      (View.ld ws (Rect.unit ![4096] S1024.size inb_S7808_S1024_4096))⟩,
    ⟨Rect.unit ![0, 3072] S256x1024.size inb_S256x7808_S256x1024_0_3072, k0_pay4 (k0_pay1 xs) x
      (View.ld w (Rect.unit ![3072, 0] S1024x1920.size inb_S7808x1920_S1024x1920_3072_0))
      (View.ld ws (Rect.unit ![3072] S1024.size inb_S7808_S1024_3072))⟩,
    ⟨Rect.unit ![0, 2048] S256x1024.size inb_S256x7808_S256x1024_0_2048, k0_pay4 (k0_pay1 xs) x
      (View.ld w (Rect.unit ![2048, 0] S1024x1920.size inb_S7808x1920_S1024x1920_2048_0))
      (View.ld ws (Rect.unit ![2048] S1024.size inb_S7808_S1024_2048))⟩,
    ⟨Rect.unit ![0, 1024] S256x1024.size inb_S256x7808_S256x1024_0_1024, k0_pay4 (k0_pay1 xs) x
      (View.ld w (Rect.unit ![1024, 0] S1024x1920.size inb_S7808x1920_S1024x1920_1024_0))
      (View.ld ws (Rect.unit ![1024] S1024.size inb_S7808_S1024_1024))⟩,
    ⟨Rect.unit ![0, 0] S256x1024.size inb_S256x7808_S256x1024_0_0, k0_pay4 (k0_pay1 xs) x
      (View.ld w (Rect.unit ![0, 0] S1024x1920.size inb_S7808x1920_S1024x1920_0_0))
      (View.ld ws (Rect.unit ![0] S1024.size inb_S7808_S1024_0))⟩]

/-- The result array. -/
def outOf (x : Vec F S256x1920 .fp8e4m3) (xs : Vec F S1x256 .f32) (w : Vec F S7808x1920 .fp8e4m3) (ws : Vec F S7808 .f32) :
    Vec F S256x7808 .bf16 :=
  View.canon (outPieces x xs w ws)

/-- The eight column chunks cover the result: column `n` lies in the chunk that starts at `1024 * (n / 1024)`. -/
theorem cover_out (p₀ : FVec F S256x640 .bf16) (p₁ p₂ p₃ p₄ p₅ p₆ p₇ : FVec F S256x1024 .bf16) (y : S256x7808.Idx) :
    ∃ p ∈ ([⟨Rect.unit ![0, 7168] S256x640.size inb_S256x7808_S256x640_0_7168, p₀⟩,
        ⟨Rect.unit ![0, 6144] S256x1024.size inb_S256x7808_S256x1024_0_6144, p₁⟩,
        ⟨Rect.unit ![0, 5120] S256x1024.size inb_S256x7808_S256x1024_0_5120, p₂⟩,
        ⟨Rect.unit ![0, 4096] S256x1024.size inb_S256x7808_S256x1024_0_4096, p₃⟩,
        ⟨Rect.unit ![0, 3072] S256x1024.size inb_S256x7808_S256x1024_0_3072, p₄⟩,
        ⟨Rect.unit ![0, 2048] S256x1024.size inb_S256x7808_S256x1024_0_2048, p₅⟩,
        ⟨Rect.unit ![0, 1024] S256x1024.size inb_S256x7808_S256x1024_0_1024, p₆⟩,
        ⟨Rect.unit ![0, 0] S256x1024.size inb_S256x7808_S256x1024_0_0, p₇⟩] : List (View.Piece (Elt F) S256x7808 .bf16)),
      y ∈ p.1.set := by
  have h0 : (y 0).val < 256 := (y 0).isLt
  have h1 : (y 1).val < 7808 := (y 1).isLt
  have hc : ∀ (o n : ℕ) (inb : ∀ a : Fin 2, (![0, o] : Fin 2 → ℕ) a + (![256, n] : Fin 2 → ℕ) a ≤ S256x7808.size a),
      o ≤ (y 1).val → (y 1).val < o + n → y ∈ (Rect.unit (s := S256x7808) ![0, o] ![256, n] inb).set := by
    intro o n inb h h'
    rw [Rect.mem_set_unit]
    intro a
    fin_cases a
    · exact ⟨Nat.zero_le _, by show (y 0).val < 0 + 256; omega⟩
    · exact ⟨h, h'⟩
  rcases Nat.lt_or_ge (y 1).val 7168 with h | h
  swap
  · exact ⟨_, List.mem_cons_self, hc 7168 640 inb_S256x7808_S256x640_0_7168 h (by omega)⟩
  rcases Nat.lt_or_ge (y 1).val 6144 with h | h
  swap
  · exact ⟨_, (List.mem_cons_of_mem _ List.mem_cons_self), hc 6144 1024 inb_S256x7808_S256x1024_0_6144 h (by omega)⟩
  rcases Nat.lt_or_ge (y 1).val 5120 with h | h
  swap
  · exact ⟨_, (List.mem_cons_of_mem _ (List.mem_cons_of_mem _ List.mem_cons_self)), hc 5120 1024 inb_S256x7808_S256x1024_0_5120 h (by omega)⟩
  rcases Nat.lt_or_ge (y 1).val 4096 with h | h
  swap
  · exact ⟨_, (List.mem_cons_of_mem _ (List.mem_cons_of_mem _ (List.mem_cons_of_mem _ List.mem_cons_self))), hc 4096 1024 inb_S256x7808_S256x1024_0_4096 h (by omega)⟩
  rcases Nat.lt_or_ge (y 1).val 3072 with h | h
  swap
  · exact ⟨_, (List.mem_cons_of_mem _ (List.mem_cons_of_mem _ (List.mem_cons_of_mem _ (List.mem_cons_of_mem _ List.mem_cons_self)))), hc 3072 1024 inb_S256x7808_S256x1024_0_3072 h (by omega)⟩
  rcases Nat.lt_or_ge (y 1).val 2048 with h | h
  swap
  · exact ⟨_, (List.mem_cons_of_mem _ (List.mem_cons_of_mem _ (List.mem_cons_of_mem _ (List.mem_cons_of_mem _ (List.mem_cons_of_mem _ List.mem_cons_self))))), hc 2048 1024 inb_S256x7808_S256x1024_0_2048 h (by omega)⟩
  rcases Nat.lt_or_ge (y 1).val 1024 with h | h
  swap
  · exact ⟨_, (List.mem_cons_of_mem _ (List.mem_cons_of_mem _ (List.mem_cons_of_mem _ (List.mem_cons_of_mem _ (List.mem_cons_of_mem _ (List.mem_cons_of_mem _ List.mem_cons_self)))))), hc 1024 1024 inb_S256x7808_S256x1024_0_1024 h (by omega)⟩
  exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hc 0 1024 inb_S256x7808_S256x1024_0_0 (Nat.zero_le _) (by omega)⟩

/-! ## Reading back what was written -/

section Reads
variable {sg : RefSig} {κ : Kind} {sp : Space} {s : Shape} {e : EltTy}

/-- A copy out of the rectangle just stored carries what was stored. -/
theorem read_stored (M : Memref sg κ sp s e) (r : Rect s) (hr : ∀ a, r.stride a = 1) (f : M.view.ty.Contents (Elt F))
    (p : r.shape.Idx → Elt F e) (L : List (View.Piece (Elt F) s e)) :
    ReadAs.same.apply ((M.slice r hr).view.read (Elt F) (M.view.writes (Elt F) f (⟨r, p⟩ :: L))) = p :=
  funext fun x => View.read_writes_cons_emb M.view f r p L x

/-- A rectangle's own indices lie in it. -/
theorem mem_rect (r : Rect s) (j : r.shape.Idx) : r.emb j ∈ r.set := by
  rw [← r.map_emb_univ]; exact Finset.mem_map_of_mem _ (Finset.mem_univ j)

/-- A load of a rectangle that a copy filled, every copied piece holding its part of `g`, reads `g` on it. -/
theorem readCov_copied (v : View sg κ sp s e) (L : List (View.Piece (Elt F) s e)) (g : s.Idx → Elt F e)
    (hg : ∀ p ∈ L, ∀ x : p.1.shape.Idx, p.2 x = g (p.1.emb x)) (r : Rect s) (hr : ∃ p, ⟨r, p⟩ ∈ L) :
    v.readCov L r.toLoadRect = View.ld g r := by
  obtain ⟨p, hp⟩ := hr
  rw [View.readCov_eq_canon v L r.toLoadRect fun j => ⟨⟨r, p⟩, hp, mem_rect r j⟩]
  exact funext fun j => View.canon_apply_of_pieces g L hg (r.emb j) ⟨⟨r, p⟩, hp, mem_rect r j⟩

/-- A load of a buffer that one copy filled whole reads the copied contents. -/
theorem load_copied (b : Ref sg κ) (f g : b.ty.Contents (Elt F)) (r : Rect b.ty.shape) :
    (Memref.whole b).view.readAt (Elt F) r.toLoadRect (View.write (Elt F) (Memref.whole b).view f g Finset.univ) = View.ld g r :=
  funext fun i => congrFun (View.read_write_univ (v := (Memref.whole b).view) f g) (r.emb i)

/-- A load of the buffer's own sizes is the contents. -/
theorem ld_full (g : s.Idx → Elt F e) {off : Fin s.rank → ℕ} (inb : ∀ a, off a + s.size a ≤ s.size a) :
    View.ld g (Rect.unit off s.size inb) = g :=
  funext fun i => congrArg g (funext fun a => Fin.ext (by
    show off a + 1 * (i a).val = (i a).val
    have := inb a; omega))

/-- Writes that cover a whole buffer leave their canonical contents. -/
theorem whole_writes (b : Ref sg κ) (f : b.ty.Contents (Elt F)) (L : List (View.Piece (Elt F) b.ty.shape b.ty.elt))
    (h : ∀ y, ∃ p ∈ L, y ∈ p.1.set) : (Memref.whole b).view.writes (Elt F) f L = View.canon L :=
  View.read_writes_eq_canon (Memref.whole b).view f L h
end Reads

/-- The weight scratch after the eight row copies: each row chunk holding its rows of the weight. -/
def landed (w : Vec F S7808x1920 .fp8e4m3) : List (View.Piece (Elt F) S7808x1920 .fp8e4m3) :=
  [⟨Rect.unit ![7168, 0] S640x1920.size inb_S7808x1920_S640x1920_7168_0, View.ld w _⟩,
    ⟨Rect.unit ![6144, 0] S1024x1920.size inb_S7808x1920_S1024x1920_6144_0, View.ld w _⟩,
    ⟨Rect.unit ![5120, 0] S1024x1920.size inb_S7808x1920_S1024x1920_5120_0, View.ld w _⟩,
    ⟨Rect.unit ![4096, 0] S1024x1920.size inb_S7808x1920_S1024x1920_4096_0, View.ld w _⟩,
    ⟨Rect.unit ![3072, 0] S1024x1920.size inb_S7808x1920_S1024x1920_3072_0, View.ld w _⟩,
    ⟨Rect.unit ![2048, 0] S1024x1920.size inb_S7808x1920_S1024x1920_2048_0, View.ld w _⟩,
    ⟨Rect.unit ![1024, 0] S1024x1920.size inb_S7808x1920_S1024x1920_1024_0, View.ld w _⟩,
    ⟨Rect.unit ![0, 0] S1024x1920.size inb_S7808x1920_S1024x1920_0_0, View.ld w _⟩]

theorem landed_rows (w : Vec F S7808x1920 .fp8e4m3) : ∀ p ∈ landed w, ∀ x : p.1.shape.Idx, p.2 x = w (p.1.emb x) := by
  intro p hp x
  simp only [landed, List.mem_cons, List.not_mem_nil, or_false] at hp
  rcases hp with rfl | rfl | rfl | rfl | rfl | rfl | rfl | rfl
  all_goals rfl

/-- A load of one of the row chunks reads the weight's rows. -/
theorem load_rows {sg : RefSig} {κ : Kind} {sp : Space} (v : View sg κ sp S7808x1920 .fp8e4m3) (w : Vec F S7808x1920 .fp8e4m3) (r : Rect S7808x1920)
    (hr : ∃ p, ⟨r, p⟩ ∈ landed w) : v.readCov (landed w) r.toLoadRect = View.ld w r :=
  readCov_copied v _ w (landed_rows w) r hr

end Cert.Kernel.Body

end
-- ==== Proof.Body.lean ====
module

public import proofs.«01_k».proof.Proof.Out
public import proofs.«01_k».proof.Proof.Gen.Kernel.Skeleton
public import Idealize.ShloMosaic.Lib.Pipeline.FrameSuffixV
public import Idealize.ShloMosaic.Lib.Pipeline.Value
public import Idealize.ShloMosaic.Lib.VecWindow
public import Idealize.ShloMosaic.Lib.Tactic
public import Idealize.ShloMosaic.Lib.Exec

/-!
# One run of the kernel body

The kernel copies its four operands from HBM into scratch (the weight in eight row chunks, all in flight at once),
computes eight column chunks of the result (seven 1024 wide, the last 640 wide), and copies each back to HBM while the
next one is computed. `kernelRun` says that the body, started with its nineteen transfer counters at zero, ends with
them at zero, with the operands as they were, and with the result at `outOf`.
-/

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body -/

/-- The contents of a buffer seen through a memref. -/
abbrev BufOf (c : Dev nD) {sp : Space} {S : Shape} {e : EltTy} (M : Memref sig .tc sp S e) : Type := Buf (Elt F) (M.view.loc (c : Thread nD τ))
/-- A buffer held whole, at the given contents. -/
abbrev pt (c : Dev nD) {sp : Space} {S : Shape} {e : EltTy} (M : Memref sig .tc sp S e) (f : BufOf (F := F) c M) : sProp 𝕄 :=
  M.view.loc (c : Thread nD τ) ↦{fullShare} f

abbrev mX : Memref sig .tc .hbm S256x1920 .fp8e4m3 := Memref.whole main_v0
abbrev mXs : Memref sig .tc .hbm S1x256 .f32 := Memref.whole main_v1
abbrev mW : Memref sig .tc .hbm S7808x1920 .fp8e4m3 := Memref.whole main_arg2
abbrev mWs : Memref sig .tc .hbm S7808 .f32 := Memref.whole main_arg3
abbrev mY : Memref sig .tc .hbm S256x7808 .bf16 := Memref.whole main_v2
abbrev bX : Memref sig .tc .vmem S256x1920 .fp8e4m3 := Memref.whole cc0_scratch0
abbrev bXs : Memref sig .tc .vmem S1x256 .f32 := Memref.whole cc0_scratch1
abbrev bW : Memref sig .tc .vmem S7808x1920 .fp8e4m3 := Memref.whole cc0_scratch2
abbrev bWs : Memref sig .tc .vmem S7808 .f32 := Memref.whole cc0_scratch3
abbrev bY : Memref sig .tc .vmem S256x7808 .bf16 := Memref.whole cc0_scratch4

/-- The kernel's own transfer counter number `n`, at zero. -/
abbrev idle (c : Dev nD) (n : Fin 19) : sProp 𝕄 := semVal ((c : Thread nD τ), SemLoc.dma n) 0
/-- All nineteen counters at zero. -/
abbrev allIdle (c : Dev nD) : sProp 𝕄 := iprop(idle c 0 ∗ idle c 1 ∗ idle c 2 ∗ idle c 3 ∗ idle c 4 ∗ idle c 5 ∗ idle c 6 ∗ idle c 7 ∗ idle c 8 ∗ idle c 9 ∗ idle c 10 ∗ idle c 11 ∗ idle c 12 ∗ idle c 13 ∗ idle c 14 ∗ idle c 15 ∗ idle c 16 ∗ idle c 17 ∗ idle c 18)

set_option sl_exec.dmaWindow true in
set_option maxHeartbeats 4000000 in
/-- The body run, from the operands at `x`, `xs`, `w`, `ws` and everything else at anything: the result's contents as the
    run finds them, together with the statement that the body ends with them. -/
noncomputable def kernelRun (c : Dev nD) (x : BufOf (F := F) c mX) (xs : BufOf (F := F) c mXs) (w : BufOf (F := F) c mW) (ws : BufOf (F := F) c mWs)
    (y : BufOf (F := F) c mY) (fx : BufOf (F := F) c bX) (fxs : BufOf (F := F) c bXs) (fw : BufOf (F := F) c bW) (fws : BufOf (F := F) c bWs)
    (fy : BufOf (F := F) c bY) :
    { g : BufOf (F := F) c mY //
      ∀ (W : Waits sig Unit) (K : PUnit → sProp 𝕄) (t : Fin cfg0.N),
      iprop(pt c bX fx ∗ pt c bXs fxs ∗ pt c bW fw ∗ pt c bWs fws ∗ pt c bY fy
          ∗ allIdle c
          ∗ pt c mX x ∗ pt c mXs xs ∗ pt c mW w ∗ pt c mWs ws ∗ pt c mY y
          ∗ owes (c : Thread nD τ) 0 W
          ∗ (iprop((∃ f, pt c bX f) ∗ (∃ f, pt c bXs f) ∗ (∃ f, pt c bW f) ∗ (∃ f, pt c bWs f) ∗ (∃ f, pt c bY f)
              ∗ allIdle c
              ∗ pt c mX x ∗ pt c mXs xs ∗ pt c mW w ∗ pt c mWs ws ∗ pt c mY g
              ∗ (∃ W', owes (c : Thread nD τ) 0 W')) -∗ K ⟨⟩))
        ⊢ wp frame (wpE (defs₀ (F := F)) Variants.none c none) Set.univ (bodyAt0 (F := F) t) K } := by
  refine ⟨?_, fun W K t => ?run⟩
  case run =>
    unfold bodyAt0
    simp only [cc0__linear_kernel_eq_skeleton]; unfold cc0__linear_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨Bx, Bxs, Bw, Bws, By, ⟨Q0, Q1, Q2, Q3, Q4, Q5, Q6, Q7, Q8, Q9, Q10, Q11, Q12, Q13, Q14, Q15, Q16, Q17, Q18⟩, Hx, Hxs, Hw, Hws, Hy, HW, Hk⟩
    sl_exec
    sl_step
    iapply Hk
    isplitl [Bx]; · iexists _; iexact Bx
    isplitl [Bxs]; · iexists _; iexact Bxs
    isplitl [Bw]; · iexists _; iexact Bw
    isplitl [Bws]; · iexists _; iexact Bws
    isplitl [By]; · iexists _; iexact By
    isplitl [Q0 Q1 Q2 Q3 Q4 Q5 Q6 Q7 Q8 Q9 Q10 Q11 Q12 Q13 Q14 Q15 Q16 Q17 Q18]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      iexact Q18
    isplitl [Hx]; · iexact Hx
    isplitl [Hxs]; · iexact Hxs
    isplitl [Hw]; · iexact Hw
    isplitl [Hws]; · iexact Hws
    isplitl [Hy]; · iexact Hy
    iexists _; iexact HW

end Cert.Kernel.Body

end
-- ==== Proof.BodyValue.lean ====
module

public import proofs.«01_k».proof.Proof.Body

/-!
# What the body run leaves in the result

The run names each value it copies or loads; here each name is read back: a load of a scratch buffer is the operand it was
copied from, a load of a weight chunk is those rows of the weight, and a copy out of the result scratch carries the chunk
just stored there. Together they give the result as `outOf` of the operands.
-/

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (x : BufOf (F := F) c mX) (xs : BufOf (F := F) c mXs) (w : BufOf (F := F) c mW) (ws : BufOf (F := F) c mWs)
    (y : BufOf (F := F) c mY) (fx : BufOf (F := F) c bX) (fxs : BufOf (F := F) c bXs) (fw : BufOf (F := F) c bW) (fws : BufOf (F := F) c bWs)
    (fy : BufOf (F := F) c bY)

/-! ## One formula for all the wide chunks -/

theorem pay5_eq : @k0_pay5 F _ = k0_pay4 := rfl
theorem pay6_eq : @k0_pay6 F _ = k0_pay4 := rfl
theorem pay7_eq : @k0_pay7 F _ = k0_pay4 := rfl
theorem pay8_eq : @k0_pay8 F _ = k0_pay4 := rfl
theorem pay9_eq : @k0_pay9 F _ = k0_pay4 := rfl
theorem pay3_eq (s : FVec F S256x1 .f32) (x : Vec F S256x1920 .fp8e4m3) (u : Vec F S1024x1920 .fp8e4m3) (v : Vec F S1024 .f32) :
    k0_pay3 s (k0_pay2 x u) v = k0_pay4 s x u v := rfl

/-! ## The loads -/

theorem load_x : View.readAt (Elt F) bX.view (Rect.unit ![0, 0] S256x1920.size inb_S256x1920_S256x1920_0_0).toLoadRect
      (View.write (Elt F) (Memref.whole cc0_scratch0).view fx (kernelRun.sl.dma0 c x) Finset.univ) = x :=
  (load_copied cc0_scratch0 fx x _).trans (ld_full x _)

theorem load_xs : kernelRun.sl.r c xs fxs = k0_pay1 xs := by
  unfold kernelRun.sl.r
  exact congrArg k0_pay1 ((load_copied cc0_scratch1 fxs xs _).trans (ld_full xs _))

theorem load_ws (r : Rect S7808) : View.readAt (Elt F) bWs.view r.toLoadRect
      (View.write (Elt F) (Memref.whole cc0_scratch3).view fws (kernelRun.sl.dma0_2 c ws) Finset.univ) = View.ld ws r :=
  load_copied cc0_scratch3 fws ws r

theorem load_w0 : kernelRun.sl.v67 c w = View.ld w (Rect.unit ![0, 0] S1024x1920.size inb_S7808x1920_S1024x1920_0_0) := by
  unfold kernelRun.sl.v67
  exact load_rows bW.view w _ ⟨_, (List.mem_cons_of_mem _ (List.mem_cons_of_mem _ (List.mem_cons_of_mem _ (List.mem_cons_of_mem _ (List.mem_cons_of_mem _ (List.mem_cons_of_mem _ (List.mem_cons_of_mem _ List.mem_cons_self)))))))⟩
theorem load_w1 : kernelRun.sl.v84 c w = View.ld w (Rect.unit ![1024, 0] S1024x1920.size inb_S7808x1920_S1024x1920_1024_0) := by
  unfold kernelRun.sl.v84
  exact load_rows bW.view w _ ⟨_, (List.mem_cons_of_mem _ (List.mem_cons_of_mem _ (List.mem_cons_of_mem _ (List.mem_cons_of_mem _ (List.mem_cons_of_mem _ (List.mem_cons_of_mem _ List.mem_cons_self))))))⟩
theorem load_w2 : kernelRun.sl.v101 c w = View.ld w (Rect.unit ![2048, 0] S1024x1920.size inb_S7808x1920_S1024x1920_2048_0) := by
  unfold kernelRun.sl.v101
  exact load_rows bW.view w _ ⟨_, (List.mem_cons_of_mem _ (List.mem_cons_of_mem _ (List.mem_cons_of_mem _ (List.mem_cons_of_mem _ (List.mem_cons_of_mem _ List.mem_cons_self)))))⟩
theorem load_w3 : kernelRun.sl.v118 c w = View.ld w (Rect.unit ![3072, 0] S1024x1920.size inb_S7808x1920_S1024x1920_3072_0) := by
  unfold kernelRun.sl.v118
  exact load_rows bW.view w _ ⟨_, (List.mem_cons_of_mem _ (List.mem_cons_of_mem _ (List.mem_cons_of_mem _ (List.mem_cons_of_mem _ List.mem_cons_self))))⟩
theorem load_w4 : kernelRun.sl.v135 c w = View.ld w (Rect.unit ![4096, 0] S1024x1920.size inb_S7808x1920_S1024x1920_4096_0) := by
  unfold kernelRun.sl.v135
  exact load_rows bW.view w _ ⟨_, (List.mem_cons_of_mem _ (List.mem_cons_of_mem _ (List.mem_cons_of_mem _ List.mem_cons_self)))⟩
theorem load_w5 : kernelRun.sl.v152 c w = View.ld w (Rect.unit ![5120, 0] S1024x1920.size inb_S7808x1920_S1024x1920_5120_0) := by
  unfold kernelRun.sl.v152
  exact load_rows bW.view w _ ⟨_, (List.mem_cons_of_mem _ (List.mem_cons_of_mem _ List.mem_cons_self))⟩
theorem load_w6 : kernelRun.sl.v169 c w = View.ld w (Rect.unit ![6144, 0] S1024x1920.size inb_S7808x1920_S1024x1920_6144_0) := by
  unfold kernelRun.sl.v169
  exact load_rows bW.view w _ ⟨_, (List.mem_cons_of_mem _ List.mem_cons_self)⟩
theorem load_w7 : kernelRun.sl.v186 c w = View.ld w (Rect.unit ![7168, 0] S640x1920.size inb_S7808x1920_S640x1920_7168_0) := by
  unfold kernelRun.sl.v186
  exact load_rows bW.view w _ ⟨_, List.mem_cons_self⟩

/-! ## The copies out -/

theorem chunk0 : kernelRun.sl.dma6 c x xs w ws fx fxs fws fy = k0_pay4 (k0_pay1 xs) x
      (View.ld w (Rect.unit ![0, 0] S1024x1920.size inb_S7808x1920_S1024x1920_0_0))
      (View.ld ws (Rect.unit ![0] S1024.size inb_S7808_S1024_0)) := by
  unfold kernelRun.sl.dma6 kernelRun.sl.By_1
  refine (read_stored (F := F) bY (Rect.unit ![0, 0] S256x1024.size inb_S256x7808_S256x1024_0_0) (fun _ => rfl) fy _ _).trans ?_
  unfold kernelRun.sl.r_1 kernelRun.sl.r_2
  rw [load_xs, load_x, load_w0, load_ws, pay3_eq]
theorem chunk1 : kernelRun.sl.dma11 c x xs w ws fx fxs fws fy = k0_pay4 (k0_pay1 xs) x
      (View.ld w (Rect.unit ![1024, 0] S1024x1920.size inb_S7808x1920_S1024x1920_1024_0))
      (View.ld ws (Rect.unit ![1024] S1024.size inb_S7808_S1024_1024)) := by
  unfold kernelRun.sl.dma11 kernelRun.sl.By_2
  refine (read_stored (F := F) bY (Rect.unit ![0, 1024] S256x1024.size inb_S256x7808_S256x1024_0_1024) (fun _ => rfl) fy _ _).trans ?_
  rw [load_xs, load_x, load_w1, load_ws]
theorem chunk2 : kernelRun.sl.dma16 c x xs w ws fx fxs fws fy = k0_pay4 (k0_pay1 xs) x
      (View.ld w (Rect.unit ![2048, 0] S1024x1920.size inb_S7808x1920_S1024x1920_2048_0))
      (View.ld ws (Rect.unit ![2048] S1024.size inb_S7808_S1024_2048)) := by
  unfold kernelRun.sl.dma16 kernelRun.sl.By_3
  refine (read_stored (F := F) bY (Rect.unit ![0, 2048] S256x1024.size inb_S256x7808_S256x1024_0_2048) (fun _ => rfl) fy _ _).trans ?_
  unfold kernelRun.sl.r_3
  rw [load_xs, load_x, load_w2, load_ws, pay5_eq]
theorem chunk3 : kernelRun.sl.dma21 c x xs w ws fx fxs fws fy = k0_pay4 (k0_pay1 xs) x
      (View.ld w (Rect.unit ![3072, 0] S1024x1920.size inb_S7808x1920_S1024x1920_3072_0))
      (View.ld ws (Rect.unit ![3072] S1024.size inb_S7808_S1024_3072)) := by
  unfold kernelRun.sl.dma21 kernelRun.sl.By_4
  refine (read_stored (F := F) bY (Rect.unit ![0, 3072] S256x1024.size inb_S256x7808_S256x1024_0_3072) (fun _ => rfl) fy _ _).trans ?_
  rw [load_xs, load_x, load_w3, load_ws, pay6_eq]
theorem chunk4 : kernelRun.sl.dma26 c x xs w ws fx fxs fws fy = k0_pay4 (k0_pay1 xs) x
      (View.ld w (Rect.unit ![4096, 0] S1024x1920.size inb_S7808x1920_S1024x1920_4096_0))
      (View.ld ws (Rect.unit ![4096] S1024.size inb_S7808_S1024_4096)) := by
  unfold kernelRun.sl.dma26 kernelRun.sl.By_5
  refine (read_stored (F := F) bY (Rect.unit ![0, 4096] S256x1024.size inb_S256x7808_S256x1024_0_4096) (fun _ => rfl) fy _ _).trans ?_
  rw [load_xs, load_x, load_w4, load_ws, pay7_eq]
theorem chunk5 : kernelRun.sl.dma31 c x xs w ws fx fxs fws fy = k0_pay4 (k0_pay1 xs) x
      (View.ld w (Rect.unit ![5120, 0] S1024x1920.size inb_S7808x1920_S1024x1920_5120_0))
      (View.ld ws (Rect.unit ![5120] S1024.size inb_S7808_S1024_5120)) := by
  unfold kernelRun.sl.dma31 kernelRun.sl.By_6
  refine (read_stored (F := F) bY (Rect.unit ![0, 5120] S256x1024.size inb_S256x7808_S256x1024_0_5120) (fun _ => rfl) fy _ _).trans ?_
  rw [load_xs, load_x, load_w5, load_ws, pay8_eq]
theorem chunk6 : kernelRun.sl.dma36 c x xs w ws fx fxs fws fy = k0_pay4 (k0_pay1 xs) x
      (View.ld w (Rect.unit ![6144, 0] S1024x1920.size inb_S7808x1920_S1024x1920_6144_0))
      (View.ld ws (Rect.unit ![6144] S1024.size inb_S7808_S1024_6144)) := by
  unfold kernelRun.sl.dma36 kernelRun.sl.By_7
  refine (read_stored (F := F) bY (Rect.unit ![0, 6144] S256x1024.size inb_S256x7808_S256x1024_0_6144) (fun _ => rfl) fy _ _).trans ?_
  rw [load_xs, load_x, load_w6, load_ws, pay9_eq]
theorem chunk7 : kernelRun.sl.dma41 c x xs w ws fx fxs fws fy = k0_pay10 (k0_pay1 xs) x
      (View.ld w (Rect.unit ![7168, 0] S640x1920.size inb_S7808x1920_S640x1920_7168_0))
      (View.ld ws (Rect.unit ![7168] S640.size inb_S7808_S640_7168)) := by
  unfold kernelRun.sl.dma41 kernelRun.sl.By_8
  refine (read_stored (F := F) bY (Rect.unit ![0, 7168] S256x640.size inb_S256x7808_S256x640_0_7168) (fun _ => rfl) fy _ _).trans ?_
  rw [load_xs, load_x, load_w7, load_ws]

/-- The result the run leaves is `outOf` of the operands, whatever the buffers held before. -/
theorem kernelRun_val : (kernelRun c x xs w ws y fx fxs fw fws fy).1 = outOf x xs w ws := by
  have h : (kernelRun c x xs w ws y fx fxs fw fws fy).1 = mY.view.writes (Elt F) y
      [⟨Rect.unit ![0, 7168] S256x640.size inb_S256x7808_S256x640_0_7168, kernelRun.sl.dma41 c x xs w ws fx fxs fws fy⟩,
        ⟨Rect.unit ![0, 6144] S256x1024.size inb_S256x7808_S256x1024_0_6144, kernelRun.sl.dma36 c x xs w ws fx fxs fws fy⟩,
        ⟨Rect.unit ![0, 5120] S256x1024.size inb_S256x7808_S256x1024_0_5120, kernelRun.sl.dma31 c x xs w ws fx fxs fws fy⟩,
        ⟨Rect.unit ![0, 4096] S256x1024.size inb_S256x7808_S256x1024_0_4096, kernelRun.sl.dma26 c x xs w ws fx fxs fws fy⟩,
        ⟨Rect.unit ![0, 3072] S256x1024.size inb_S256x7808_S256x1024_0_3072, kernelRun.sl.dma21 c x xs w ws fx fxs fws fy⟩,
        ⟨Rect.unit ![0, 2048] S256x1024.size inb_S256x7808_S256x1024_0_2048, kernelRun.sl.dma16 c x xs w ws fx fxs fws fy⟩,
        ⟨Rect.unit ![0, 1024] S256x1024.size inb_S256x7808_S256x1024_0_1024, kernelRun.sl.dma11 c x xs w ws fx fxs fws fy⟩,
        ⟨Rect.unit ![0, 0] S256x1024.size inb_S256x7808_S256x1024_0_0, kernelRun.sl.dma6 c x xs w ws fx fxs fws fy⟩] := by
    unfold kernelRun; with_reducible rfl
  rw [h, chunk0, chunk1, chunk2, chunk3, chunk4, chunk5, chunk6, chunk7]
  unfold outOf outPieces
  exact whole_writes main_v2 y _ (cover_out _ _ _ _ _ _ _ _)

end Cert.Kernel.Body

end
-- ==== Proof.Run.lean ====
module

public import proofs.«01_k».proof.Proof.BodyValue
public import proofs.«01_k».proof.Proof.Gen.Kernel.Frame
public import Idealize.ShloMosaic.Lib.Claim

/-!
# One run of the whole program

`main` reshapes `x` and `x_scale`, launches the kernel once, and reshapes what it leaves. `run_main` says that every
weakly fair execution ends with the result at `resultOf` of them, with the four arguments as they were and with every
semaphore at zero.
-/

@[expose] public section

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The resources of the launch -/

/-- The kernel's own nineteen transfer counters. -/
abbrev osem : Fin 19 → SemLoc sig := fun j => SemLoc.dma j
theorem ownSemFacts : Pipeline.OwnSemFacts cfg0.spec osem := by decide
/-- The buffers the kernel only reads. -/
def H : Finset (Ref sig .tc) := {main_v0, main_v1, main_arg2, main_arg3}
/-- The buffer the kernel writes. -/
def R : Finset (Ref sig .tc) := {main_v2}
theorem H_sub : H ⊆ Pipeline.restRefs sig cfg0.spec := by decide
theorem R_sub : R ⊆ Pipeline.restRefs sig cfg0.spec \ H := by decide

theorem ownSems_eq (c : Dev nD) :
    (Pipeline.ownSems0 (Ix := Unit) (Name := ℕ) (U := Pipeline.UD sig nD τ) (Lvl := ℕ) (Val := Elt F) (τ := τ) osem c : sProp 𝕄)
      = allIdle c := by
  rw [Pipeline.ownSems0_eq_of_list c osem [0, 1, 2, 3, 4, 5, 6, 7, 8, 9, 10, 11, 12, 13, 14, 15, 16, 17, 18] (by decide) (by decide)]; rfl
theorem H_eq (c : Dev nD) (V : (b : Ref sig .tc) → Buf (Elt F) ((c : Thread nD τ).loc b)) :
    (bigSep H fun b => (((c : Thread nD τ).loc b) ↦{fullShare} V b : sProp 𝕄))
      = iprop(pt c mX (V main_v0) ∗ pt c mXs (V main_v1) ∗ pt c mW (V main_arg2) ∗ pt c mWs (V main_arg3)) := by
  rw [BI.bigSep_eq_bigSepL_of_eq [main_v0, main_v1, main_arg2, main_arg3] (by decide) (by decide)]; rfl
theorem R_eq (c : Dev nD) (V : (b : Ref sig .tc) → Buf (Elt F) ((c : Thread nD τ).loc b)) :
    (bigSep R fun b => (((c : Thread nD τ).loc b) ↦{fullShare} V b : sProp 𝕄)) = pt c mY (V main_v2) := by
  rw [BI.bigSep_eq_bigSepL_of_eq [main_v2] (by decide) (by decide)]; rfl
/-- What the kernel's invariant holds, listed: the scratch at anything, the counters at zero, the operands at `V`, the
    result at `G`. -/
theorem Φ_eq (c : Dev nD) (V G : (c : Dev nD) → (b : Ref sig .tc) → Buf (Elt F) ((c : Thread nD τ).loc b)) :
    (Pipeline.ΦDRV osem cfg0.spec H R V G c : sProp 𝕄)
      = iprop(((∃ f, pt c bX f) ∗ (∃ f, pt c bXs f) ∗ (∃ f, pt c bW f) ∗ (∃ f, pt c bWs f) ∗ (∃ f, pt c bY f)) ∗ allIdle c
          ∗ (pt c mX (V c main_v0) ∗ pt c mXs (V c main_v1) ∗ pt c mW (V c main_arg2) ∗ pt c mWs (V c main_arg3))
          ∗ pt c mY (G c main_v2)) := by
  unfold Pipeline.ΦDRV
  rw [scopedRest0_eq, ownSems_eq, H_eq, R_eq]

/-- What the kernel leaves in its result buffer. -/
def left (c : Dev nD) : BufOf (F := F) c mY := outOf (F := F) (V m c main_v0) (V m c main_v1) (V m c main_arg2) (V m c main_arg3)
/-- The buffers' contents when the kernel is done. -/
def G (c : Dev nD) : (b : Ref sig .tc) → Buf (Elt F) ((c : Thread nD τ).loc b) := Function.update (V m c) main_v2 (left m c)
theorem G_v2 (c : Dev nD) : G m c main_v2 = left m c := by unfold G; exact Function.update_self ..

/-! ## The body obligation -/

/-- The proof data of the one launch: no window; before the body the invariant at the contents found, after it at `G`. -/
def dats (_ : Fin 1) (c : Dev nD) : Dat τ (Elt F) Unit ℕ (Pipeline.UD sig nD τ) ℕ cfg0 c where
  A w := w.elim0
  after w := w.elim0
  Φ p := if (p : ℕ) = 0 then Pipeline.ΦDRV osem cfg0.spec H R (V m) (V m) c else Pipeline.ΦDRV osem cfg0.spec H R (V m) (G m) c
  q _ := fullShare
  owed _ := 0

theorem Φ_start (c : Dev nD) : (dats m 0 c).Φ 0 = Pipeline.ΦDRV osem cfg0.spec H R (V m) (V m) c := by
  dsimp only [dats]; exact if_pos rfl
theorem Φ_before (c : Dev nD) (t : Fin cfg0.N) : (dats m 0 c).Φ t.castSucc = Pipeline.ΦDRV osem cfg0.spec H R (V m) (V m) c := by
  have ht : t = t0_0 := fin_N0 t
  subst ht; dsimp only [dats]; exact if_pos rfl
theorem Φ_after (c : Dev nD) (t : Fin cfg0.N) : (dats m 0 c).Φ t.succ = Pipeline.ΦDRV osem cfg0.spec H R (V m) (G m) c := by
  dsimp only [dats]; exact if_neg (Nat.succ_ne_zero _)
theorem Φ_last (c : Dev nD) : (dats m 0 c).Φ (Fin.last cfg0.N) = Pipeline.ΦDRV osem cfg0.spec H R (V m) (G m) c := by
  dsimp only [dats]; exact if_neg (by rw [Fin.val_last]; exact (by decide : grid0.N ≠ 0))

/-- The body keeps the invariant. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 (F := F) t)
          (fun _ => iprop((dats m 0 c).Φ t.succ ∗ (dats m 0 c).owesAt () t.succ)) := by
  rw [Φ_before, Φ_after, Φ_eq, Φ_eq, G_v2]
  unfold Dat.owesAt Pipeline.owesWithin
  rw [show (dats m 0 c).owed t.castSucc = 0 from rfl, show (dats m 0 c).owed t.succ = 0 from rfl]
  iintro ⟨⟨⟨⟨%fx, Bx⟩, ⟨%fxs, Bxs⟩, ⟨%fw, Bw⟩, ⟨%fws, Bws⟩, ⟨%fy, By⟩⟩, HQ, ⟨Hx, Hxs, Hw, Hws⟩, Hy⟩, ⟨%W, -, HW⟩⟩
  iapply ((kernelRun c (V m c main_v0) (V m c main_v1) (V m c main_arg2) (V m c main_arg3) (V m c main_v2) fx fxs fw fws fy).2 W _ t)
  isplitl [Bx]; · iexact Bx
  isplitl [Bxs]; · iexact Bxs
  isplitl [Bw]; · iexact Bw
  isplitl [Bws]; · iexact Bws
  isplitl [By]; · iexact By
  isplitl [HQ]; · iexact HQ
  isplitl [Hx]; · iexact Hx
  isplitl [Hxs]; · iexact Hxs
  isplitl [Hw]; · iexact Hw
  isplitl [Hws]; · iexact Hws
  isplitl [Hy]; · iexact Hy
  isplitl [HW]; · iexact HW
  rw [kernelRun_val]
  iintro ⟨Bx, Bxs, Bw, Bws, By, HQ, Hx, Hxs, Hw, Hws, Hy, ⟨%W', HW'⟩⟩
  isplitl [Bx Bxs Bw Bws By HQ Hx Hxs Hw Hws Hy]
  · isplitl [Bx Bxs Bw Bws By]
    · isplitl [Bx]; · iexact Bx
      isplitl [Bxs]; · iexact Bxs
      isplitl [Bw]; · iexact Bw
      isplitl [Bws]; · iexact Bws
      iexact By
    isplitl [HQ]; · iexact HQ
    isplitl [Hx Hxs Hw Hws]
    · isplitl [Hx]; · iexact Hx
      isplitl [Hxs]; · iexact Hxs
      isplitl [Hw]; · iexact Hw
      iexact Hws
    unfold left
    iexact Hy
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have : IsEmpty (Fin cfg0.W) := Fin.isEmpty
  rw [Finset.univ_eq_empty, bigSep_empty, bigSep_empty, defs₀_row]
  refine (show _ ⊢ iprop((dats m 0 c).Φ t.castSucc ∗ (dats m 0 c).owesAt () t.castSucc) from ?_).trans
    ((sound_body m c t).trans (wp_mono _ _ _ fun _ => ?_))
  · iintro ⟨H1, H2, -⟩
    isplitl [H1]; · iexact H1
    iexact H2
  · iintro ⟨H1, H2⟩
    isplitl [H1]; · iexact H1
    isplitl [H2]; · iexact H2
    exact .rfl

/-! ## The launch -/

set_option maxHeartbeats 800000 in
/-- `main` as the host lines before the launch, the launch, and the host lines after it. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents the last host lines find. -/
abbrev atTail (c : Dev nD) : Valuation τ sig (Elt F) :=
  Pipeline.withArrays cfg0.spec c (Pipeline.withR (V0 m c) R c (G m c)) fun w => (dats m 0 c).arrAt w cfg0.N

/-- What a run ends in: every buffer the launch does not own as the last host lines leave it, all semaphores at zero. -/
def Post (r : PUnit × MemSt nD τ sig (Elt F)) : Prop :=
  (∀ c : Dev nD, ∀ b ∈ Pipeline.restRefs sig cfg0.spec, r.2.mem ((c.tc : Thread nD τ).loc b)
      = StableHlo.after (List.flatten [hostOps1]) (atTail m c) (Proc.devRef .tc b)) ∧ r.2.sem = fun _ => 0

set_option backward.isDefEq.respectTransparency.types false in
theorem run_post : θ_run defs (onTc (τ := τ) (main (F := F))) (s₀ m ρ) (Post m) :=
  Pipeline.θ_run_frame_dmaR_aroundV (Q' := Post m) cfgs (dats m) (0 : Fin 1) launch0 osem defs₀ Variants.none ownSemFacts H R H_sub R_sub m ρ main
    (hbody := fun c => (body_obligation m c).loose) (hshare := fun _ w => w.elim0) (howed := fun _ _ => rfl)
    (V₀ := V0 m) (opss := [hostOps1]) (hsub := sfx_sub) (hfresh := sfx_fresh) (hkeep := sfx_keeps) (G := G m)
    (hmain := hmainD m) (hA := fun _ w => w.elim0)
    (hin := fun c => by rw [Φ_start]) (hout := fun c => by rw [Φ_last])
    (hQ' := fun _ h => ⟨fun c => (h.1 c).2, h.2⟩)

/-! ## What the host lines leave -/

theorem V_v0 (c : Dev nD) : V m c main_v0 = shapeCast S256x1920 (m ((c : Thread nD τ).loc main_arg0)) shapeCasts_S256x1x1920_S256x1920 := by
  show StableHlo.after hostOps0 (fun b => m (c, b)) (Proc.devRef .tc main_v0) = _
  after_results; rfl
theorem V_v1 (c : Dev nD) : V m c main_v1 = shapeCast S1x256 (m ((c : Thread nD τ).loc main_arg1)) shapeCasts_S256x1x1_S1x256 := by
  show StableHlo.after hostOps0 (fun b => m (c, b)) (Proc.devRef .tc main_v1) = _
  after_results; rfl
theorem host_v3 (V : Valuation τ sig (Elt F)) : StableHlo.after hostOps1 V (Proc.devRef .tc main_v3)
    = shapeCast S256x1x7808 (V (Proc.devRef .tc main_v2)) shapeCasts_S256x7808_S256x1x7808 := by
  after_results; rfl

theorem tail_v2 (c : Dev nD) : atTail m c (Proc.devRef .tc main_v2) = left m c := by
  rw [atTail, Pipeline.withArrays_of_ne _ _ _ _ main_v2 (fun w => w.elim0), Pipeline.withR_of_mem _ _ _ _ main_v2 (by decide), G_v2]
theorem tail_arg (c : Dev nD) (b : Ref sig .tc) (hb : b ∉ R) : atTail m c (Proc.devRef .tc b) = V m c b := by
  rw [atTail, Pipeline.withArrays_of_ne _ _ _ _ b (fun w => w.elim0), Pipeline.withR_of_not_mem _ _ _ _ b hb]
theorem end_v3 (c : Dev nD) : StableHlo.after (List.flatten [hostOps1]) (atTail m c) (Proc.devRef .tc main_v3)
    = shapeCast S256x1x7808 (left m c) shapeCasts_S256x7808_S256x1x7808 := by
  rw [← tail_v2]; exact host_v3 _

/-- The program's result, of its four arguments. -/
def resultOf (a0 : Vec F S256x1x1920 .fp8e4m3) (a1 : Vec F S256x1x1 .f32) (a2 : Vec F S7808x1920 .fp8e4m3) (a3 : Vec F S7808 .f32) :
    Vec F S256x1x7808 .bf16 :=
  shapeCast S256x1x7808 (outOf (shapeCast S256x1920 a0 shapeCasts_S256x1x1920_S256x1920) (shapeCast S1x256 a1 shapeCasts_S256x1x1_S1x256) a2 a3)
    shapeCasts_S256x7808_S256x1x7808

/-- The last host lines write the result only. -/
theorem end_arg (c : Dev nD) (b : Ref sig .tc) (hb : main_v3 ≠ b) (hR : b ∉ R) :
    StableHlo.after (List.flatten [hostOps1]) (atTail m c) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb.symm)), tail_arg m c b hR]

/-- THE RUN: every weakly fair execution ends with the result at `resultOf` of the arguments, with the arguments as they
    were and with every semaphore at zero. -/
theorem run_main : θ_run defs (onTc (τ := τ) (main (F := F))) ⟨m, fun _ => 0, ρ⟩ (fun r => (∀ c : Dev nD,
      r.2.mem ((c.tc : Thread nD τ).loc main_v3) = resultOf (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_v3 (Pipeline.mem_restRefs_of main_v3 (by decide) (by decide))).trans (by
        rw [end_v3, left, V_v0, V_v1, V_main_arg2, V_main_arg3]; rfl),
      (h.1 c main_arg0 (Pipeline.mem_restRefs_of main_arg0 (by decide) (by decide))).trans
        ((end_arg m c main_arg0 (by decide) (by decide)).trans (V_main_arg0 m c)),
      (h.1 c main_arg1 (Pipeline.mem_restRefs_of main_arg1 (by decide) (by decide))).trans
        ((end_arg m c main_arg1 (by decide) (by decide)).trans (V_main_arg1 m c)),
      (h.1 c main_arg2 (Pipeline.mem_restRefs_of main_arg2 (by decide) (by decide))).trans
        ((end_arg m c main_arg2 (by decide) (by decide)).trans (V_main_arg2 m c)),
      (h.1 c main_arg3 (Pipeline.mem_restRefs_of main_arg3 (by decide) (by decide))).trans
        ((end_arg m c main_arg3 (by decide) (by decide)).trans (V_main_arg3 m c))⟩, h.2⟩) (run_post m ρ)

end Cert.Kernel.Body

end
-- ==== Proof.IdealOut.lean ====
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Pipeline.Value
public import Idealize.ShloMosaic.Lib.VecWindow
public import Idealize.ShloMosaic.Lib.Tactic
public import Idealize.ShloMosaic.Lib.Exec

/-!
# The result of the kernel body, as a function of its operands

`outOf` is the result array: eight column chunks, each of one formula of the operands. The lemmas below it read a
buffer back after the copies and stores that filled it.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body computes -/

/-- The result's column chunks, the last one first: each rectangle with what the body stores there. -/
def outPieces (x : Vec F S256x1920 .fp8e4m3) (xs : Vec F S1x256 .f32) (w : Vec F S7808x1920 .fp8e4m3) (ws : Vec F S7808 .f32) :
    List (View.Piece (Elt F) S256x7808 .bf16) :=
  [⟨Rect.unit ![0, 7168] S256x640.size inb_S256x7808_S256x640_0_7168, k0_pay10 (k0_pay1 xs) x
      (View.ld w (Rect.unit ![7168, 0] S640x1920.size inb_S7808x1920_S640x1920_7168_0))
      (View.ld ws (Rect.unit ![7168] S640.size inb_S7808_S640_7168))⟩,
    ⟨Rect.unit ![0, 6144] S256x1024.size inb_S256x7808_S256x1024_0_6144, k0_pay4 (k0_pay1 xs) x
      (View.ld w (Rect.unit ![6144, 0] S1024x1920.size inb_S7808x1920_S1024x1920_6144_0))
      (View.ld ws (Rect.unit ![6144] S1024.size inb_S7808_S1024_6144))⟩,
    ⟨Rect.unit ![0, 5120] S256x1024.size inb_S256x7808_S256x1024_0_5120, k0_pay4 (k0_pay1 xs) x
      (View.ld w (Rect.unit ![5120, 0] S1024x1920.size inb_S7808x1920_S1024x1920_5120_0))
      (View.ld ws (Rect.unit ![5120] S1024.size inb_S7808_S1024_5120))⟩,
    ⟨Rect.unit ![0, 4096] S256x1024.size inb_S256x7808_S256x1024_0_4096, k0_pay4 (k0_pay1 xs) x
      (View.ld w (Rect.unit ![4096, 0] S1024x1920.size inb_S7808x1920_S1024x1920_4096_0))
      (View.ld ws (Rect.unit ![4096] S1024.size inb_S7808_S1024_4096))⟩,
    ⟨Rect.unit ![0, 3072] S256x1024.size inb_S256x7808_S256x1024_0_3072, k0_pay4 (k0_pay1 xs) x
      (View.ld w (Rect.unit ![3072, 0] S1024x1920.size inb_S7808x1920_S1024x1920_3072_0))
      (View.ld ws (Rect.unit ![3072] S1024.size inb_S7808_S1024_3072))⟩,
    ⟨Rect.unit ![0, 2048] S256x1024.size inb_S256x7808_S256x1024_0_2048, k0_pay4 (k0_pay1 xs) x
      (View.ld w (Rect.unit ![2048, 0] S1024x1920.size inb_S7808x1920_S1024x1920_2048_0))
      (View.ld ws (Rect.unit ![2048] S1024.size inb_S7808_S1024_2048))⟩,
    ⟨Rect.unit ![0, 1024] S256x1024.size inb_S256x7808_S256x1024_0_1024, k0_pay4 (k0_pay1 xs) x
      (View.ld w (Rect.unit ![1024, 0] S1024x1920.size inb_S7808x1920_S1024x1920_1024_0))
      (View.ld ws (Rect.unit ![1024] S1024.size inb_S7808_S1024_1024))⟩,
    ⟨Rect.unit ![0, 0] S256x1024.size inb_S256x7808_S256x1024_0_0, k0_pay4 (k0_pay1 xs) x
      (View.ld w (Rect.unit ![0, 0] S1024x1920.size inb_S7808x1920_S1024x1920_0_0))
      (View.ld ws (Rect.unit ![0] S1024.size inb_S7808_S1024_0))⟩]

/-- The result array. -/
def outOf (x : Vec F S256x1920 .fp8e4m3) (xs : Vec F S1x256 .f32) (w : Vec F S7808x1920 .fp8e4m3) (ws : Vec F S7808 .f32) :
    Vec F S256x7808 .bf16 :=
  View.canon (outPieces x xs w ws)

/-- The eight column chunks cover the result: column `n` lies in the chunk that starts at `1024 * (n / 1024)`. -/
theorem cover_out (p₀ : FVec F S256x640 .bf16) (p₁ p₂ p₃ p₄ p₅ p₆ p₇ : FVec F S256x1024 .bf16) (y : S256x7808.Idx) :
    ∃ p ∈ ([⟨Rect.unit ![0, 7168] S256x640.size inb_S256x7808_S256x640_0_7168, p₀⟩,
        ⟨Rect.unit ![0, 6144] S256x1024.size inb_S256x7808_S256x1024_0_6144, p₁⟩,
        ⟨Rect.unit ![0, 5120] S256x1024.size inb_S256x7808_S256x1024_0_5120, p₂⟩,
        ⟨Rect.unit ![0, 4096] S256x1024.size inb_S256x7808_S256x1024_0_4096, p₃⟩,
        ⟨Rect.unit ![0, 3072] S256x1024.size inb_S256x7808_S256x1024_0_3072, p₄⟩,
        ⟨Rect.unit ![0, 2048] S256x1024.size inb_S256x7808_S256x1024_0_2048, p₅⟩,
        ⟨Rect.unit ![0, 1024] S256x1024.size inb_S256x7808_S256x1024_0_1024, p₆⟩,
        ⟨Rect.unit ![0, 0] S256x1024.size inb_S256x7808_S256x1024_0_0, p₇⟩] : List (View.Piece (Elt F) S256x7808 .bf16)),
      y ∈ p.1.set := by
  have h0 : (y 0).val < 256 := (y 0).isLt
  have h1 : (y 1).val < 7808 := (y 1).isLt
  have hc : ∀ (o n : ℕ) (inb : ∀ a : Fin 2, (![0, o] : Fin 2 → ℕ) a + (![256, n] : Fin 2 → ℕ) a ≤ S256x7808.size a),
      o ≤ (y 1).val → (y 1).val < o + n → y ∈ (Rect.unit (s := S256x7808) ![0, o] ![256, n] inb).set := by
    intro o n inb h h'
    rw [Rect.mem_set_unit]
    intro a
    fin_cases a
    · exact ⟨Nat.zero_le _, by show (y 0).val < 0 + 256; omega⟩
    · exact ⟨h, h'⟩
  rcases Nat.lt_or_ge (y 1).val 7168 with h | h
  swap
  · exact ⟨_, List.mem_cons_self, hc 7168 640 inb_S256x7808_S256x640_0_7168 h (by omega)⟩
  rcases Nat.lt_or_ge (y 1).val 6144 with h | h
  swap
  · exact ⟨_, (List.mem_cons_of_mem _ List.mem_cons_self), hc 6144 1024 inb_S256x7808_S256x1024_0_6144 h (by omega)⟩
  rcases Nat.lt_or_ge (y 1).val 5120 with h | h
  swap
  · exact ⟨_, (List.mem_cons_of_mem _ (List.mem_cons_of_mem _ List.mem_cons_self)), hc 5120 1024 inb_S256x7808_S256x1024_0_5120 h (by omega)⟩
  rcases Nat.lt_or_ge (y 1).val 4096 with h | h
  swap
  · exact ⟨_, (List.mem_cons_of_mem _ (List.mem_cons_of_mem _ (List.mem_cons_of_mem _ List.mem_cons_self))), hc 4096 1024 inb_S256x7808_S256x1024_0_4096 h (by omega)⟩
  rcases Nat.lt_or_ge (y 1).val 3072 with h | h
  swap
  · exact ⟨_, (List.mem_cons_of_mem _ (List.mem_cons_of_mem _ (List.mem_cons_of_mem _ (List.mem_cons_of_mem _ List.mem_cons_self)))), hc 3072 1024 inb_S256x7808_S256x1024_0_3072 h (by omega)⟩
  rcases Nat.lt_or_ge (y 1).val 2048 with h | h
  swap
  · exact ⟨_, (List.mem_cons_of_mem _ (List.mem_cons_of_mem _ (List.mem_cons_of_mem _ (List.mem_cons_of_mem _ (List.mem_cons_of_mem _ List.mem_cons_self))))), hc 2048 1024 inb_S256x7808_S256x1024_0_2048 h (by omega)⟩
  rcases Nat.lt_or_ge (y 1).val 1024 with h | h
  swap
  · exact ⟨_, (List.mem_cons_of_mem _ (List.mem_cons_of_mem _ (List.mem_cons_of_mem _ (List.mem_cons_of_mem _ (List.mem_cons_of_mem _ (List.mem_cons_of_mem _ List.mem_cons_self)))))), hc 1024 1024 inb_S256x7808_S256x1024_0_1024 h (by omega)⟩
  exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), hc 0 1024 inb_S256x7808_S256x1024_0_0 (Nat.zero_le _) (by omega)⟩

/-! ## Reading back what was written -/

section Reads
variable {sg : RefSig} {κ : Kind} {sp : Space} {s : Shape} {e : EltTy}

/-- A copy out of the rectangle just stored carries what was stored. -/
theorem read_stored (M : Memref sg κ sp s e) (r : Rect s) (hr : ∀ a, r.stride a = 1) (f : M.view.ty.Contents (Elt F))
    (p : r.shape.Idx → Elt F e) (L : List (View.Piece (Elt F) s e)) :
    ReadAs.same.apply ((M.slice r hr).view.read (Elt F) (M.view.writes (Elt F) f (⟨r, p⟩ :: L))) = p :=
  funext fun x => View.read_writes_cons_emb M.view f r p L x

/-- A rectangle's own indices lie in it. -/
theorem mem_rect (r : Rect s) (j : r.shape.Idx) : r.emb j ∈ r.set := by
  rw [← r.map_emb_univ]; exact Finset.mem_map_of_mem _ (Finset.mem_univ j)

/-- A load of a rectangle that a copy filled, every copied piece holding its part of `g`, reads `g` on it. -/
theorem readCov_copied (v : View sg κ sp s e) (L : List (View.Piece (Elt F) s e)) (g : s.Idx → Elt F e)
    (hg : ∀ p ∈ L, ∀ x : p.1.shape.Idx, p.2 x = g (p.1.emb x)) (r : Rect s) (hr : ∃ p, ⟨r, p⟩ ∈ L) :
    v.readCov L r.toLoadRect = View.ld g r := by
  obtain ⟨p, hp⟩ := hr
  rw [View.readCov_eq_canon v L r.toLoadRect fun j => ⟨⟨r, p⟩, hp, mem_rect r j⟩]
  exact funext fun j => View.canon_apply_of_pieces g L hg (r.emb j) ⟨⟨r, p⟩, hp, mem_rect r j⟩

/-- A load of a buffer that one copy filled whole reads the copied contents. -/
theorem load_copied (b : Ref sg κ) (f g : b.ty.Contents (Elt F)) (r : Rect b.ty.shape) :
    (Memref.whole b).view.readAt (Elt F) r.toLoadRect (View.write (Elt F) (Memref.whole b).view f g Finset.univ) = View.ld g r :=
  funext fun i => congrFun (View.read_write_univ (v := (Memref.whole b).view) f g) (r.emb i)

/-- A load of the buffer's own sizes is the contents. -/
theorem ld_full (g : s.Idx → Elt F e) {off : Fin s.rank → ℕ} (inb : ∀ a, off a + s.size a ≤ s.size a) :
    View.ld g (Rect.unit off s.size inb) = g :=
  funext fun i => congrArg g (funext fun a => Fin.ext (by
    show off a + 1 * (i a).val = (i a).val
    have := inb a; omega))

/-- Writes that cover a whole buffer leave their canonical contents. -/
theorem whole_writes (b : Ref sg κ) (f : b.ty.Contents (Elt F)) (L : List (View.Piece (Elt F) b.ty.shape b.ty.elt))
    (h : ∀ y, ∃ p ∈ L, y ∈ p.1.set) : (Memref.whole b).view.writes (Elt F) f L = View.canon L :=
  View.read_writes_eq_canon (Memref.whole b).view f L h
end Reads

/-- The weight scratch after the eight row copies: each row chunk holding its rows of the weight. -/
def landed (w : Vec F S7808x1920 .fp8e4m3) : List (View.Piece (Elt F) S7808x1920 .fp8e4m3) :=
  [⟨Rect.unit ![7168, 0] S640x1920.size inb_S7808x1920_S640x1920_7168_0, View.ld w _⟩,
    ⟨Rect.unit ![6144, 0] S1024x1920.size inb_S7808x1920_S1024x1920_6144_0, View.ld w _⟩,
    ⟨Rect.unit ![5120, 0] S1024x1920.size inb_S7808x1920_S1024x1920_5120_0, View.ld w _⟩,
    ⟨Rect.unit ![4096, 0] S1024x1920.size inb_S7808x1920_S1024x1920_4096_0, View.ld w _⟩,
    ⟨Rect.unit ![3072, 0] S1024x1920.size inb_S7808x1920_S1024x1920_3072_0, View.ld w _⟩,
    ⟨Rect.unit ![2048, 0] S1024x1920.size inb_S7808x1920_S1024x1920_2048_0, View.ld w _⟩,
    ⟨Rect.unit ![1024, 0] S1024x1920.size inb_S7808x1920_S1024x1920_1024_0, View.ld w _⟩,
    ⟨Rect.unit ![0, 0] S1024x1920.size inb_S7808x1920_S1024x1920_0_0, View.ld w _⟩]

theorem landed_rows (w : Vec F S7808x1920 .fp8e4m3) : ∀ p ∈ landed w, ∀ x : p.1.shape.Idx, p.2 x = w (p.1.emb x) := by
  intro p hp x
  simp only [landed, List.mem_cons, List.not_mem_nil, or_false] at hp
  rcases hp with rfl | rfl | rfl | rfl | rfl | rfl | rfl | rfl
  all_goals rfl

/-- A load of one of the row chunks reads the weight's rows. -/
theorem load_rows {sg : RefSig} {κ : Kind} {sp : Space} (v : View sg κ sp S7808x1920 .fp8e4m3) (w : Vec F S7808x1920 .fp8e4m3) (r : Rect S7808x1920)
    (hr : ∃ p, ⟨r, p⟩ ∈ landed w) : v.readCov (landed w) r.toLoadRect = View.ld w r :=
  readCov_copied v _ w (landed_rows w) r hr

end Cert.KernelIdeal.Body

end
-- ==== Proof.IdealBody.lean ====
module

public import proofs.«01_k».proof.Proof.IdealOut
public import proofs.«01_k».proof.Proof.Gen.KernelIdeal.Skeleton
public import Idealize.ShloMosaic.Lib.Pipeline.FrameSuffixV
public import Idealize.ShloMosaic.Lib.Pipeline.Value
public import Idealize.ShloMosaic.Lib.VecWindow
public import Idealize.ShloMosaic.Lib.Tactic
public import Idealize.ShloMosaic.Lib.Exec

/-!
# One run of the kernel body

The kernel copies its four operands from HBM into scratch (the weight in eight row chunks, all in flight at once),
computes eight column chunks of the result (seven 1024 wide, the last 640 wide), and copies each back to HBM while the
next one is computed. `kernelRun` says that the body, started with its nineteen transfer counters at zero, ends with
them at zero, with the operands as they were, and with the result at `outOf`.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body -/

/-- The contents of a buffer seen through a memref. -/
abbrev BufOf (c : Dev nD) {sp : Space} {S : Shape} {e : EltTy} (M : Memref sig .tc sp S e) : Type := Buf (Elt F) (M.view.loc (c : Thread nD τ))
/-- A buffer held whole, at the given contents. -/
abbrev pt (c : Dev nD) {sp : Space} {S : Shape} {e : EltTy} (M : Memref sig .tc sp S e) (f : BufOf (F := F) c M) : sProp 𝕄 :=
  M.view.loc (c : Thread nD τ) ↦{fullShare} f

abbrev mX : Memref sig .tc .hbm S256x1920 .fp8e4m3 := Memref.whole main_v0
abbrev mXs : Memref sig .tc .hbm S1x256 .f32 := Memref.whole main_v1
abbrev mW : Memref sig .tc .hbm S7808x1920 .fp8e4m3 := Memref.whole main_arg2
abbrev mWs : Memref sig .tc .hbm S7808 .f32 := Memref.whole main_arg3
abbrev mY : Memref sig .tc .hbm S256x7808 .bf16 := Memref.whole main_v2
abbrev bX : Memref sig .tc .vmem S256x1920 .fp8e4m3 := Memref.whole cc0_scratch0
abbrev bXs : Memref sig .tc .vmem S1x256 .f32 := Memref.whole cc0_scratch1
abbrev bW : Memref sig .tc .vmem S7808x1920 .fp8e4m3 := Memref.whole cc0_scratch2
abbrev bWs : Memref sig .tc .vmem S7808 .f32 := Memref.whole cc0_scratch3
abbrev bY : Memref sig .tc .vmem S256x7808 .bf16 := Memref.whole cc0_scratch4

/-- The kernel's own transfer counter number `n`, at zero. -/
abbrev idle (c : Dev nD) (n : Fin 19) : sProp 𝕄 := semVal ((c : Thread nD τ), SemLoc.dma n) 0
/-- All nineteen counters at zero. -/
abbrev allIdle (c : Dev nD) : sProp 𝕄 := iprop(idle c 0 ∗ idle c 1 ∗ idle c 2 ∗ idle c 3 ∗ idle c 4 ∗ idle c 5 ∗ idle c 6 ∗ idle c 7 ∗ idle c 8 ∗ idle c 9 ∗ idle c 10 ∗ idle c 11 ∗ idle c 12 ∗ idle c 13 ∗ idle c 14 ∗ idle c 15 ∗ idle c 16 ∗ idle c 17 ∗ idle c 18)

set_option sl_exec.dmaWindow true in
set_option maxHeartbeats 4000000 in
/-- The body run, from the operands at `x`, `xs`, `w`, `ws` and everything else at anything: the result's contents as the
    run finds them, together with the statement that the body ends with them. -/
noncomputable def kernelRun (c : Dev nD) (x : BufOf (F := F) c mX) (xs : BufOf (F := F) c mXs) (w : BufOf (F := F) c mW) (ws : BufOf (F := F) c mWs)
    (y : BufOf (F := F) c mY) (fx : BufOf (F := F) c bX) (fxs : BufOf (F := F) c bXs) (fw : BufOf (F := F) c bW) (fws : BufOf (F := F) c bWs)
    (fy : BufOf (F := F) c bY) :
    { g : BufOf (F := F) c mY //
      ∀ (W : Waits sig Unit) (K : PUnit → sProp 𝕄) (t : Fin cfg0.N),
      iprop(pt c bX fx ∗ pt c bXs fxs ∗ pt c bW fw ∗ pt c bWs fws ∗ pt c bY fy
          ∗ allIdle c
          ∗ pt c mX x ∗ pt c mXs xs ∗ pt c mW w ∗ pt c mWs ws ∗ pt c mY y
          ∗ owes (c : Thread nD τ) 0 W
          ∗ (iprop((∃ f, pt c bX f) ∗ (∃ f, pt c bXs f) ∗ (∃ f, pt c bW f) ∗ (∃ f, pt c bWs f) ∗ (∃ f, pt c bY f)
              ∗ allIdle c
              ∗ pt c mX x ∗ pt c mXs xs ∗ pt c mW w ∗ pt c mWs ws ∗ pt c mY g
              ∗ (∃ W', owes (c : Thread nD τ) 0 W')) -∗ K ⟨⟩))
        ⊢ wp frame (wpE (defs₀ (F := F)) Variants.none c none) Set.univ (bodyAt0 (F := F) t) K } := by
  refine ⟨?_, fun W K t => ?run⟩
  case run =>
    unfold bodyAt0
    simp only [cc0__linear_kernel_eq_skeleton]; unfold cc0__linear_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨Bx, Bxs, Bw, Bws, By, ⟨Q0, Q1, Q2, Q3, Q4, Q5, Q6, Q7, Q8, Q9, Q10, Q11, Q12, Q13, Q14, Q15, Q16, Q17, Q18⟩, Hx, Hxs, Hw, Hws, Hy, HW, Hk⟩
    sl_exec
    sl_step
    iapply Hk
    isplitl [Bx]; · iexists _; iexact Bx
    isplitl [Bxs]; · iexists _; iexact Bxs
    isplitl [Bw]; · iexists _; iexact Bw
    isplitl [Bws]; · iexists _; iexact Bws
    isplitl [By]; · iexists _; iexact By
    isplitl [Q0 Q1 Q2 Q3 Q4 Q5 Q6 Q7 Q8 Q9 Q10 Q11 Q12 Q13 Q14 Q15 Q16 Q17 Q18]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      iexact Q18
    isplitl [Hx]; · iexact Hx
    isplitl [Hxs]; · iexact Hxs
    isplitl [Hw]; · iexact Hw
    isplitl [Hws]; · iexact Hws
    isplitl [Hy]; · iexact Hy
    iexists _; iexact HW

end Cert.KernelIdeal.Body

end
-- ==== Proof.IdealBodyValue.lean ====
module

public import proofs.«01_k».proof.Proof.IdealBody

/-!
# What the body run leaves in the result

The run names each value it copies or loads; here each name is read back: a load of a scratch buffer is the operand it was
copied from, a load of a weight chunk is those rows of the weight, and a copy out of the result scratch carries the chunk
just stored there. Together they give the result as `outOf` of the operands.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (x : BufOf (F := F) c mX) (xs : BufOf (F := F) c mXs) (w : BufOf (F := F) c mW) (ws : BufOf (F := F) c mWs)
    (y : BufOf (F := F) c mY) (fx : BufOf (F := F) c bX) (fxs : BufOf (F := F) c bXs) (fw : BufOf (F := F) c bW) (fws : BufOf (F := F) c bWs)
    (fy : BufOf (F := F) c bY)

/-! ## One formula for all the wide chunks -/

theorem pay5_eq : @k0_pay5 F _ = k0_pay4 := rfl
theorem pay6_eq : @k0_pay6 F _ = k0_pay4 := rfl
theorem pay7_eq : @k0_pay7 F _ = k0_pay4 := rfl
theorem pay8_eq : @k0_pay8 F _ = k0_pay4 := rfl
theorem pay9_eq : @k0_pay9 F _ = k0_pay4 := rfl
theorem pay3_eq (s : FVec F S256x1 .f32) (x : Vec F S256x1920 .fp8e4m3) (u : Vec F S1024x1920 .fp8e4m3) (v : Vec F S1024 .f32) :
    k0_pay3 s (k0_pay2 x u) v = k0_pay4 s x u v := rfl

/-! ## The loads -/

theorem load_x : View.readAt (Elt F) bX.view (Rect.unit ![0, 0] S256x1920.size inb_S256x1920_S256x1920_0_0).toLoadRect
      (View.write (Elt F) (Memref.whole cc0_scratch0).view fx (kernelRun.sl.dma0 c x) Finset.univ) = x :=
  (load_copied cc0_scratch0 fx x _).trans (ld_full x _)

theorem load_xs : kernelRun.sl.r c xs fxs = k0_pay1 xs := by
  unfold kernelRun.sl.r
  exact congrArg k0_pay1 ((load_copied cc0_scratch1 fxs xs _).trans (ld_full xs _))

theorem load_ws (r : Rect S7808) : View.readAt (Elt F) bWs.view r.toLoadRect
      (View.write (Elt F) (Memref.whole cc0_scratch3).view fws (kernelRun.sl.dma0_2 c ws) Finset.univ) = View.ld ws r :=
  load_copied cc0_scratch3 fws ws r

theorem load_w0 : kernelRun.sl.v67 c w = View.ld w (Rect.unit ![0, 0] S1024x1920.size inb_S7808x1920_S1024x1920_0_0) := by
  unfold kernelRun.sl.v67
  exact load_rows bW.view w _ ⟨_, (List.mem_cons_of_mem _ (List.mem_cons_of_mem _ (List.mem_cons_of_mem _ (List.mem_cons_of_mem _ (List.mem_cons_of_mem _ (List.mem_cons_of_mem _ (List.mem_cons_of_mem _ List.mem_cons_self)))))))⟩
theorem load_w1 : kernelRun.sl.v84 c w = View.ld w (Rect.unit ![1024, 0] S1024x1920.size inb_S7808x1920_S1024x1920_1024_0) := by
  unfold kernelRun.sl.v84
  exact load_rows bW.view w _ ⟨_, (List.mem_cons_of_mem _ (List.mem_cons_of_mem _ (List.mem_cons_of_mem _ (List.mem_cons_of_mem _ (List.mem_cons_of_mem _ (List.mem_cons_of_mem _ List.mem_cons_self))))))⟩
theorem load_w2 : kernelRun.sl.v101 c w = View.ld w (Rect.unit ![2048, 0] S1024x1920.size inb_S7808x1920_S1024x1920_2048_0) := by
  unfold kernelRun.sl.v101
  exact load_rows bW.view w _ ⟨_, (List.mem_cons_of_mem _ (List.mem_cons_of_mem _ (List.mem_cons_of_mem _ (List.mem_cons_of_mem _ (List.mem_cons_of_mem _ List.mem_cons_self)))))⟩
theorem load_w3 : kernelRun.sl.v118 c w = View.ld w (Rect.unit ![3072, 0] S1024x1920.size inb_S7808x1920_S1024x1920_3072_0) := by
  unfold kernelRun.sl.v118
  exact load_rows bW.view w _ ⟨_, (List.mem_cons_of_mem _ (List.mem_cons_of_mem _ (List.mem_cons_of_mem _ (List.mem_cons_of_mem _ List.mem_cons_self))))⟩
theorem load_w4 : kernelRun.sl.v135 c w = View.ld w (Rect.unit ![4096, 0] S1024x1920.size inb_S7808x1920_S1024x1920_4096_0) := by
  unfold kernelRun.sl.v135
  exact load_rows bW.view w _ ⟨_, (List.mem_cons_of_mem _ (List.mem_cons_of_mem _ (List.mem_cons_of_mem _ List.mem_cons_self)))⟩
theorem load_w5 : kernelRun.sl.v152 c w = View.ld w (Rect.unit ![5120, 0] S1024x1920.size inb_S7808x1920_S1024x1920_5120_0) := by
  unfold kernelRun.sl.v152
  exact load_rows bW.view w _ ⟨_, (List.mem_cons_of_mem _ (List.mem_cons_of_mem _ List.mem_cons_self))⟩
theorem load_w6 : kernelRun.sl.v169 c w = View.ld w (Rect.unit ![6144, 0] S1024x1920.size inb_S7808x1920_S1024x1920_6144_0) := by
  unfold kernelRun.sl.v169
  exact load_rows bW.view w _ ⟨_, (List.mem_cons_of_mem _ List.mem_cons_self)⟩
theorem load_w7 : kernelRun.sl.v186 c w = View.ld w (Rect.unit ![7168, 0] S640x1920.size inb_S7808x1920_S640x1920_7168_0) := by
  unfold kernelRun.sl.v186
  exact load_rows bW.view w _ ⟨_, List.mem_cons_self⟩

/-! ## The copies out -/

theorem chunk0 : kernelRun.sl.dma6 c x xs w ws fx fxs fws fy = k0_pay4 (k0_pay1 xs) x
      (View.ld w (Rect.unit ![0, 0] S1024x1920.size inb_S7808x1920_S1024x1920_0_0))
      (View.ld ws (Rect.unit ![0] S1024.size inb_S7808_S1024_0)) := by
  unfold kernelRun.sl.dma6 kernelRun.sl.By_1
  refine (read_stored (F := F) bY (Rect.unit ![0, 0] S256x1024.size inb_S256x7808_S256x1024_0_0) (fun _ => rfl) fy _ _).trans ?_
  unfold kernelRun.sl.r_1 kernelRun.sl.r_2
  rw [load_xs, load_x, load_w0, load_ws, pay3_eq]
theorem chunk1 : kernelRun.sl.dma11 c x xs w ws fx fxs fws fy = k0_pay4 (k0_pay1 xs) x
      (View.ld w (Rect.unit ![1024, 0] S1024x1920.size inb_S7808x1920_S1024x1920_1024_0))
      (View.ld ws (Rect.unit ![1024] S1024.size inb_S7808_S1024_1024)) := by
  unfold kernelRun.sl.dma11 kernelRun.sl.By_2
  refine (read_stored (F := F) bY (Rect.unit ![0, 1024] S256x1024.size inb_S256x7808_S256x1024_0_1024) (fun _ => rfl) fy _ _).trans ?_
  rw [load_xs, load_x, load_w1, load_ws]
theorem chunk2 : kernelRun.sl.dma16 c x xs w ws fx fxs fws fy = k0_pay4 (k0_pay1 xs) x
      (View.ld w (Rect.unit ![2048, 0] S1024x1920.size inb_S7808x1920_S1024x1920_2048_0))
      (View.ld ws (Rect.unit ![2048] S1024.size inb_S7808_S1024_2048)) := by
  unfold kernelRun.sl.dma16 kernelRun.sl.By_3
  refine (read_stored (F := F) bY (Rect.unit ![0, 2048] S256x1024.size inb_S256x7808_S256x1024_0_2048) (fun _ => rfl) fy _ _).trans ?_
  unfold kernelRun.sl.r_3
  rw [load_xs, load_x, load_w2, load_ws, pay5_eq]
theorem chunk3 : kernelRun.sl.dma21 c x xs w ws fx fxs fws fy = k0_pay4 (k0_pay1 xs) x
      (View.ld w (Rect.unit ![3072, 0] S1024x1920.size inb_S7808x1920_S1024x1920_3072_0))
      (View.ld ws (Rect.unit ![3072] S1024.size inb_S7808_S1024_3072)) := by
  unfold kernelRun.sl.dma21 kernelRun.sl.By_4
  refine (read_stored (F := F) bY (Rect.unit ![0, 3072] S256x1024.size inb_S256x7808_S256x1024_0_3072) (fun _ => rfl) fy _ _).trans ?_
  rw [load_xs, load_x, load_w3, load_ws, pay6_eq]
theorem chunk4 : kernelRun.sl.dma26 c x xs w ws fx fxs fws fy = k0_pay4 (k0_pay1 xs) x
      (View.ld w (Rect.unit ![4096, 0] S1024x1920.size inb_S7808x1920_S1024x1920_4096_0))
      (View.ld ws (Rect.unit ![4096] S1024.size inb_S7808_S1024_4096)) := by
  unfold kernelRun.sl.dma26 kernelRun.sl.By_5
  refine (read_stored (F := F) bY (Rect.unit ![0, 4096] S256x1024.size inb_S256x7808_S256x1024_0_4096) (fun _ => rfl) fy _ _).trans ?_
  rw [load_xs, load_x, load_w4, load_ws, pay7_eq]
theorem chunk5 : kernelRun.sl.dma31 c x xs w ws fx fxs fws fy = k0_pay4 (k0_pay1 xs) x
      (View.ld w (Rect.unit ![5120, 0] S1024x1920.size inb_S7808x1920_S1024x1920_5120_0))
      (View.ld ws (Rect.unit ![5120] S1024.size inb_S7808_S1024_5120)) := by
  unfold kernelRun.sl.dma31 kernelRun.sl.By_6
  refine (read_stored (F := F) bY (Rect.unit ![0, 5120] S256x1024.size inb_S256x7808_S256x1024_0_5120) (fun _ => rfl) fy _ _).trans ?_
  rw [load_xs, load_x, load_w5, load_ws, pay8_eq]
theorem chunk6 : kernelRun.sl.dma36 c x xs w ws fx fxs fws fy = k0_pay4 (k0_pay1 xs) x
      (View.ld w (Rect.unit ![6144, 0] S1024x1920.size inb_S7808x1920_S1024x1920_6144_0))
      (View.ld ws (Rect.unit ![6144] S1024.size inb_S7808_S1024_6144)) := by
  unfold kernelRun.sl.dma36 kernelRun.sl.By_7
  refine (read_stored (F := F) bY (Rect.unit ![0, 6144] S256x1024.size inb_S256x7808_S256x1024_0_6144) (fun _ => rfl) fy _ _).trans ?_
  rw [load_xs, load_x, load_w6, load_ws, pay9_eq]
theorem chunk7 : kernelRun.sl.dma41 c x xs w ws fx fxs fws fy = k0_pay10 (k0_pay1 xs) x
      (View.ld w (Rect.unit ![7168, 0] S640x1920.size inb_S7808x1920_S640x1920_7168_0))
      (View.ld ws (Rect.unit ![7168] S640.size inb_S7808_S640_7168)) := by
  unfold kernelRun.sl.dma41 kernelRun.sl.By_8
  refine (read_stored (F := F) bY (Rect.unit ![0, 7168] S256x640.size inb_S256x7808_S256x640_0_7168) (fun _ => rfl) fy _ _).trans ?_
  rw [load_xs, load_x, load_w7, load_ws]

/-- The result the run leaves is `outOf` of the operands, whatever the buffers held before. -/
theorem kernelRun_val : (kernelRun c x xs w ws y fx fxs fw fws fy).1 = outOf x xs w ws := by
  have h : (kernelRun c x xs w ws y fx fxs fw fws fy).1 = mY.view.writes (Elt F) y
      [⟨Rect.unit ![0, 7168] S256x640.size inb_S256x7808_S256x640_0_7168, kernelRun.sl.dma41 c x xs w ws fx fxs fws fy⟩,
        ⟨Rect.unit ![0, 6144] S256x1024.size inb_S256x7808_S256x1024_0_6144, kernelRun.sl.dma36 c x xs w ws fx fxs fws fy⟩,
        ⟨Rect.unit ![0, 5120] S256x1024.size inb_S256x7808_S256x1024_0_5120, kernelRun.sl.dma31 c x xs w ws fx fxs fws fy⟩,
        ⟨Rect.unit ![0, 4096] S256x1024.size inb_S256x7808_S256x1024_0_4096, kernelRun.sl.dma26 c x xs w ws fx fxs fws fy⟩,
        ⟨Rect.unit ![0, 3072] S256x1024.size inb_S256x7808_S256x1024_0_3072, kernelRun.sl.dma21 c x xs w ws fx fxs fws fy⟩,
        ⟨Rect.unit ![0, 2048] S256x1024.size inb_S256x7808_S256x1024_0_2048, kernelRun.sl.dma16 c x xs w ws fx fxs fws fy⟩,
        ⟨Rect.unit ![0, 1024] S256x1024.size inb_S256x7808_S256x1024_0_1024, kernelRun.sl.dma11 c x xs w ws fx fxs fws fy⟩,
        ⟨Rect.unit ![0, 0] S256x1024.size inb_S256x7808_S256x1024_0_0, kernelRun.sl.dma6 c x xs w ws fx fxs fws fy⟩] := by
    unfold kernelRun; with_reducible rfl
  rw [h, chunk0, chunk1, chunk2, chunk3, chunk4, chunk5, chunk6, chunk7]
  unfold outOf outPieces
  exact whole_writes main_v2 y _ (cover_out _ _ _ _ _ _ _ _)

end Cert.KernelIdeal.Body

end
-- ==== Proof.IdealRun.lean ====
module

public import proofs.«01_k».proof.Proof.IdealBodyValue
public import proofs.«01_k».proof.Proof.Gen.KernelIdeal.Frame
public import Idealize.ShloMosaic.Lib.Claim

/-!
# One run of the whole program

`main` reshapes `x` and `x_scale`, launches the kernel once, and reshapes what it leaves. `run_main` says that every
weakly fair execution ends with the result at `resultOf` of them, with the four arguments as they were and with every
semaphore at zero.
-/

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The resources of the launch -/

/-- The kernel's own nineteen transfer counters. -/
abbrev osem : Fin 19 → SemLoc sig := fun j => SemLoc.dma j
theorem ownSemFacts : Pipeline.OwnSemFacts cfg0.spec osem := by decide
/-- The buffers the kernel only reads. -/
def H : Finset (Ref sig .tc) := {main_v0, main_v1, main_arg2, main_arg3}
/-- The buffer the kernel writes. -/
def R : Finset (Ref sig .tc) := {main_v2}
theorem H_sub : H ⊆ Pipeline.restRefs sig cfg0.spec := by decide
theorem R_sub : R ⊆ Pipeline.restRefs sig cfg0.spec \ H := by decide

theorem ownSems_eq (c : Dev nD) :
    (Pipeline.ownSems0 (Ix := Unit) (Name := ℕ) (U := Pipeline.UD sig nD τ) (Lvl := ℕ) (Val := Elt F) (τ := τ) osem c : sProp 𝕄)
      = allIdle c := by
  rw [Pipeline.ownSems0_eq_of_list c osem [0, 1, 2, 3, 4, 5, 6, 7, 8, 9, 10, 11, 12, 13, 14, 15, 16, 17, 18] (by decide) (by decide)]; rfl
theorem H_eq (c : Dev nD) (V : (b : Ref sig .tc) → Buf (Elt F) ((c : Thread nD τ).loc b)) :
    (bigSep H fun b => (((c : Thread nD τ).loc b) ↦{fullShare} V b : sProp 𝕄))
      = iprop(pt c mX (V main_v0) ∗ pt c mXs (V main_v1) ∗ pt c mW (V main_arg2) ∗ pt c mWs (V main_arg3)) := by
  rw [BI.bigSep_eq_bigSepL_of_eq [main_v0, main_v1, main_arg2, main_arg3] (by decide) (by decide)]; rfl
theorem R_eq (c : Dev nD) (V : (b : Ref sig .tc) → Buf (Elt F) ((c : Thread nD τ).loc b)) :
    (bigSep R fun b => (((c : Thread nD τ).loc b) ↦{fullShare} V b : sProp 𝕄)) = pt c mY (V main_v2) := by
  rw [BI.bigSep_eq_bigSepL_of_eq [main_v2] (by decide) (by decide)]; rfl
/-- What the kernel's invariant holds, listed: the scratch at anything, the counters at zero, the operands at `V`, the
    result at `G`. -/
theorem Φ_eq (c : Dev nD) (V G : (c : Dev nD) → (b : Ref sig .tc) → Buf (Elt F) ((c : Thread nD τ).loc b)) :
    (Pipeline.ΦDRV osem cfg0.spec H R V G c : sProp 𝕄)
      = iprop(((∃ f, pt c bX f) ∗ (∃ f, pt c bXs f) ∗ (∃ f, pt c bW f) ∗ (∃ f, pt c bWs f) ∗ (∃ f, pt c bY f)) ∗ allIdle c
          ∗ (pt c mX (V c main_v0) ∗ pt c mXs (V c main_v1) ∗ pt c mW (V c main_arg2) ∗ pt c mWs (V c main_arg3))
          ∗ pt c mY (G c main_v2)) := by
  unfold Pipeline.ΦDRV
  rw [scopedRest0_eq, ownSems_eq, H_eq, R_eq]

/-- What the kernel leaves in its result buffer. -/
def left (c : Dev nD) : BufOf (F := F) c mY := outOf (F := F) (V m c main_v0) (V m c main_v1) (V m c main_arg2) (V m c main_arg3)
/-- The buffers' contents when the kernel is done. -/
def G (c : Dev nD) : (b : Ref sig .tc) → Buf (Elt F) ((c : Thread nD τ).loc b) := Function.update (V m c) main_v2 (left m c)
theorem G_v2 (c : Dev nD) : G m c main_v2 = left m c := by unfold G; exact Function.update_self ..

/-! ## The body obligation -/

/-- The proof data of the one launch: no window; before the body the invariant at the contents found, after it at `G`. -/
def dats (_ : Fin 1) (c : Dev nD) : Dat τ (Elt F) Unit ℕ (Pipeline.UD sig nD τ) ℕ cfg0 c where
  A w := w.elim0
  after w := w.elim0
  Φ p := if (p : ℕ) = 0 then Pipeline.ΦDRV osem cfg0.spec H R (V m) (V m) c else Pipeline.ΦDRV osem cfg0.spec H R (V m) (G m) c
  q _ := fullShare
  owed _ := 0

theorem Φ_start (c : Dev nD) : (dats m 0 c).Φ 0 = Pipeline.ΦDRV osem cfg0.spec H R (V m) (V m) c := by
  dsimp only [dats]; exact if_pos rfl
theorem Φ_before (c : Dev nD) (t : Fin cfg0.N) : (dats m 0 c).Φ t.castSucc = Pipeline.ΦDRV osem cfg0.spec H R (V m) (V m) c := by
  have ht : t = t0_0 := fin_N0 t
  subst ht; dsimp only [dats]; exact if_pos rfl
theorem Φ_after (c : Dev nD) (t : Fin cfg0.N) : (dats m 0 c).Φ t.succ = Pipeline.ΦDRV osem cfg0.spec H R (V m) (G m) c := by
  dsimp only [dats]; exact if_neg (Nat.succ_ne_zero _)
theorem Φ_last (c : Dev nD) : (dats m 0 c).Φ (Fin.last cfg0.N) = Pipeline.ΦDRV osem cfg0.spec H R (V m) (G m) c := by
  dsimp only [dats]; exact if_neg (by rw [Fin.val_last]; exact (by decide : grid0.N ≠ 0))

/-- The body keeps the invariant. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 (F := F) t)
          (fun _ => iprop((dats m 0 c).Φ t.succ ∗ (dats m 0 c).owesAt () t.succ)) := by
  rw [Φ_before, Φ_after, Φ_eq, Φ_eq, G_v2]
  unfold Dat.owesAt Pipeline.owesWithin
  rw [show (dats m 0 c).owed t.castSucc = 0 from rfl, show (dats m 0 c).owed t.succ = 0 from rfl]
  iintro ⟨⟨⟨⟨%fx, Bx⟩, ⟨%fxs, Bxs⟩, ⟨%fw, Bw⟩, ⟨%fws, Bws⟩, ⟨%fy, By⟩⟩, HQ, ⟨Hx, Hxs, Hw, Hws⟩, Hy⟩, ⟨%W, -, HW⟩⟩
  iapply ((kernelRun c (V m c main_v0) (V m c main_v1) (V m c main_arg2) (V m c main_arg3) (V m c main_v2) fx fxs fw fws fy).2 W _ t)
  isplitl [Bx]; · iexact Bx
  isplitl [Bxs]; · iexact Bxs
  isplitl [Bw]; · iexact Bw
  isplitl [Bws]; · iexact Bws
  isplitl [By]; · iexact By
  isplitl [HQ]; · iexact HQ
  isplitl [Hx]; · iexact Hx
  isplitl [Hxs]; · iexact Hxs
  isplitl [Hw]; · iexact Hw
  isplitl [Hws]; · iexact Hws
  isplitl [Hy]; · iexact Hy
  isplitl [HW]; · iexact HW
  rw [kernelRun_val]
  iintro ⟨Bx, Bxs, Bw, Bws, By, HQ, Hx, Hxs, Hw, Hws, Hy, ⟨%W', HW'⟩⟩
  isplitl [Bx Bxs Bw Bws By HQ Hx Hxs Hw Hws Hy]
  · isplitl [Bx Bxs Bw Bws By]
    · isplitl [Bx]; · iexact Bx
      isplitl [Bxs]; · iexact Bxs
      isplitl [Bw]; · iexact Bw
      isplitl [Bws]; · iexact Bws
      iexact By
    isplitl [HQ]; · iexact HQ
    isplitl [Hx Hxs Hw Hws]
    · isplitl [Hx]; · iexact Hx
      isplitl [Hxs]; · iexact Hxs
      isplitl [Hw]; · iexact Hw
      iexact Hws
    unfold left
    iexact Hy
  iexists W'; isplitr; · ipureintro; exact fun _ _ => Or.inl trivial
  iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have : IsEmpty (Fin cfg0.W) := Fin.isEmpty
  rw [Finset.univ_eq_empty, bigSep_empty, bigSep_empty, defs₀_row]
  refine (show _ ⊢ iprop((dats m 0 c).Φ t.castSucc ∗ (dats m 0 c).owesAt () t.castSucc) from ?_).trans
    ((sound_body m c t).trans (wp_mono _ _ _ fun _ => ?_))
  · iintro ⟨H1, H2, -⟩
    isplitl [H1]; · iexact H1
    iexact H2
  · iintro ⟨H1, H2⟩
    isplitl [H1]; · iexact H1
    isplitl [H2]; · iexact H2
    exact .rfl

/-! ## The launch -/

set_option maxHeartbeats 800000 in
/-- `main` as the host lines before the launch, the launch, and the host lines after it. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents the last host lines find. -/
abbrev atTail (c : Dev nD) : Valuation τ sig (Elt F) :=
  Pipeline.withArrays cfg0.spec c (Pipeline.withR (V0 m c) R c (G m c)) fun w => (dats m 0 c).arrAt w cfg0.N

/-- What a run ends in: every buffer the launch does not own as the last host lines leave it, all semaphores at zero. -/
def Post (r : PUnit × MemSt nD τ sig (Elt F)) : Prop :=
  (∀ c : Dev nD, ∀ b ∈ Pipeline.restRefs sig cfg0.spec, r.2.mem ((c.tc : Thread nD τ).loc b)
      = StableHlo.after (List.flatten [hostOps1]) (atTail m c) (Proc.devRef .tc b)) ∧ r.2.sem = fun _ => 0

set_option backward.isDefEq.respectTransparency.types false in
theorem run_post : θ_run defs (onTc (τ := τ) (main (F := F))) (s₀ m ρ) (Post m) :=
  Pipeline.θ_run_frame_dmaR_aroundV (Q' := Post m) cfgs (dats m) (0 : Fin 1) launch0 osem defs₀ Variants.none ownSemFacts H R H_sub R_sub m ρ main
    (hbody := fun c => (body_obligation m c).loose) (hshare := fun _ w => w.elim0) (howed := fun _ _ => rfl)
    (V₀ := V0 m) (opss := [hostOps1]) (hsub := sfx_sub) (hfresh := sfx_fresh) (hkeep := sfx_keeps) (G := G m)
    (hmain := hmainD m) (hA := fun _ w => w.elim0)
    (hin := fun c => by rw [Φ_start]) (hout := fun c => by rw [Φ_last])
    (hQ' := fun _ h => ⟨fun c => (h.1 c).2, h.2⟩)

/-! ## What the host lines leave -/

theorem V_v0 (c : Dev nD) : V m c main_v0 = shapeCast S256x1920 (m ((c : Thread nD τ).loc main_arg0)) shapeCasts_S256x1x1920_S256x1920 := by
  show StableHlo.after hostOps0 (fun b => m (c, b)) (Proc.devRef .tc main_v0) = _
  after_results; rfl
theorem V_v1 (c : Dev nD) : V m c main_v1 = shapeCast S1x256 (m ((c : Thread nD τ).loc main_arg1)) shapeCasts_S256x1x1_S1x256 := by
  show StableHlo.after hostOps0 (fun b => m (c, b)) (Proc.devRef .tc main_v1) = _
  after_results; rfl
theorem host_v3 (V : Valuation τ sig (Elt F)) : StableHlo.after hostOps1 V (Proc.devRef .tc main_v3)
    = shapeCast S256x1x7808 (V (Proc.devRef .tc main_v2)) shapeCasts_S256x7808_S256x1x7808 := by
  after_results; rfl

theorem tail_v2 (c : Dev nD) : atTail m c (Proc.devRef .tc main_v2) = left m c := by
  rw [atTail, Pipeline.withArrays_of_ne _ _ _ _ main_v2 (fun w => w.elim0), Pipeline.withR_of_mem _ _ _ _ main_v2 (by decide), G_v2]
theorem tail_arg (c : Dev nD) (b : Ref sig .tc) (hb : b ∉ R) : atTail m c (Proc.devRef .tc b) = V m c b := by
  rw [atTail, Pipeline.withArrays_of_ne _ _ _ _ b (fun w => w.elim0), Pipeline.withR_of_not_mem _ _ _ _ b hb]
theorem end_v3 (c : Dev nD) : StableHlo.after (List.flatten [hostOps1]) (atTail m c) (Proc.devRef .tc main_v3)
    = shapeCast S256x1x7808 (left m c) shapeCasts_S256x7808_S256x1x7808 := by
  rw [← tail_v2]; exact host_v3 _

/-- The program's result, of its four arguments. -/
def resultOf (a0 : Vec F S256x1x1920 .fp8e4m3) (a1 : Vec F S256x1x1 .f32) (a2 : Vec F S7808x1920 .fp8e4m3) (a3 : Vec F S7808 .f32) :
    Vec F S256x1x7808 .bf16 :=
  shapeCast S256x1x7808 (outOf (shapeCast S256x1920 a0 shapeCasts_S256x1x1920_S256x1920) (shapeCast S1x256 a1 shapeCasts_S256x1x1_S1x256) a2 a3)
    shapeCasts_S256x7808_S256x1x7808

/-- The last host lines write the result only. -/
theorem end_arg (c : Dev nD) (b : Ref sig .tc) (hb : main_v3 ≠ b) (hR : b ∉ R) :
    StableHlo.after (List.flatten [hostOps1]) (atTail m c) (Proc.devRef .tc b) = V m c b := by
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb.symm)), tail_arg m c b hR]

/-- THE RUN: every weakly fair execution ends with the result at `resultOf` of the arguments, with the arguments as they
    were and with every semaphore at zero. -/
theorem run_main : θ_run defs (onTc (τ := τ) (main (F := F))) ⟨m, fun _ => 0, ρ⟩ (fun r => (∀ c : Dev nD,
      r.2.mem ((c.tc : Thread nD τ).loc main_v3) = resultOf (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_v3 (Pipeline.mem_restRefs_of main_v3 (by decide) (by decide))).trans (by
        rw [end_v3, left, V_v0, V_v1, V_main_arg2, V_main_arg3]; rfl),
      (h.1 c main_arg0 (Pipeline.mem_restRefs_of main_arg0 (by decide) (by decide))).trans
        ((end_arg m c main_arg0 (by decide) (by decide)).trans (V_main_arg0 m c)),
      (h.1 c main_arg1 (Pipeline.mem_restRefs_of main_arg1 (by decide) (by decide))).trans
        ((end_arg m c main_arg1 (by decide) (by decide)).trans (V_main_arg1 m c)),
      (h.1 c main_arg2 (Pipeline.mem_restRefs_of main_arg2 (by decide) (by decide))).trans
        ((end_arg m c main_arg2 (by decide) (by decide)).trans (V_main_arg2 m c)),
      (h.1 c main_arg3 (Pipeline.mem_restRefs_of main_arg3 (by decide) (by decide))).trans
        ((end_arg m c main_arg3 (by decide) (by decide)).trans (V_main_arg3 m c))⟩, h.2⟩) (run_post m ρ)

end Cert.KernelIdeal.Body

end
-- ==== Proof.Equation.lean ====
module

public import proofs.«01_k».proof.Proof.IdealRun
public import proofs.«01_k».proof.Proof.Gen.ReferenceIdeal.Value
public import Idealize.ShloMosaic.Lib.MatmulPlain
public import Idealize.ShloMosaic.Lib.ValueIdx
public import Idealize.ShloMosaic.Lib.ValueLayout
public import Idealize.ShloMosaic.Lib.Pipeline.Value

/-!
# The kernel's result is the reference's, over the extended reals

Both are, at row `i` and column `n`, the sum over `k` of `x[i, k] * w[n, k]`, times `x_scale[i]`, times `w_scale[n]`.
The kernel computes it one column chunk at a time, so one lemma about a chunk of any width at any offset
(`chunk_apply`) is used eight times.
-/

@[expose] public section

set_option maxRecDepth 65536

noncomputable section

namespace Cert.Equation

open Idealize.ShloMosaic Idealize.ShloMosaic.ValueIdx
open scoped BigOperators

/-! ## One chunk of the product, at an index -/

/-- A column spread over `N` columns. -/
theorem column_apply {M N : ℕ} (hM : M ≠ 1) (v : (⟨2, ![M, 1]⟩ : Shape).Idx → EReal) (h : (⟨2, ![M, 1]⟩ : Shape).Broadcasts ⟨2, ![M, N]⟩)
    (r : Fin M) (n : Fin N) : broadcastTo ⟨2, ![M, N]⟩ v h (ix2 r n) = v (ix2 r 0) :=
  broadcastTo_apply v h _ _ fun a => by
    match a with
    | ⟨0, _⟩ => exact (if_neg hM).symm
    | ⟨1, _⟩ => exact (if_pos rfl).symm

/-- A row spread over `M` rows. -/
theorem row_apply {M N : ℕ} (hN : N ≠ 1) (v : (⟨2, ![1, N]⟩ : Shape).Idx → EReal) (h : (⟨2, ![1, N]⟩ : Shape).Broadcasts ⟨2, ![M, N]⟩)
    (r : Fin M) (n : Fin N) : broadcastTo ⟨2, ![M, N]⟩ v h (ix2 r n) = v (ix2 0 n) :=
  broadcastTo_apply v h _ _ fun a => by
    match a with
    | ⟨0, _⟩ => exact (if_pos rfl).symm
    | ⟨1, _⟩ => exact (if_neg hN).symm

/-- A vector written as a row. -/
theorem asRow_apply {N : ℕ} (v : (⟨1, ![N]⟩ : Shape).Idx → EReal) (h : (⟨1, ![N]⟩ : Shape).ShapeCasts ⟨2, ![1, N]⟩) (n : Fin N) :
    shapeCast ⟨2, ![1, N]⟩ v h (ix2 0 n) = v (ix1 n) :=
  shapeCast_apply v h _ _ (by
    rw [Shape.rowMajor_val_one, Shape.rowMajor_val_two]
    show n.val = 0 * N + n.val
    omega)

/-- A chunk's accumulator starts at zero. -/
theorem product_apply {M K N : ℕ} (x : FVec Ideal ⟨2, ![M, K]⟩ .fp8e4m3) (w : FVec Ideal ⟨2, ![N, K]⟩ .fp8e4m3) (r : Fin M) (n : Fin N) :
    FloatOps.matmul (F := Ideal) (DotDims.transposedRhs M K N) none x w (constant ⟨2, ![M, N]⟩ .f32 0x00000000#32) (ix2 r n)
      = ∑ k : Fin K, x (ix2 r k) * w (ix2 n k) := by
  rw [Ideal.matmul_transposedRhs_apply]
  show Ideal.ofBits .f32 0x00000000#32 + _ = _
  rw [Ideal.ofBits_zero_f32, zero_add]

/-- The 1024 columns of a chunk, at an index. -/
theorem chunk1024_apply (v : FVec Ideal KernelIdeal.S256x1 .f32) (x : FVec Ideal KernelIdeal.S256x1920 .fp8e4m3)
    (w : FVec Ideal KernelIdeal.S1024x1920 .fp8e4m3) (ws : FVec Ideal KernelIdeal.S1024 .f32) (r : Fin 256) (n : Fin 1024) :
    KernelIdeal.Gen.k0_pay4 v x w ws (ix2 r n) = (∑ k : Fin 1920, x (ix2 r k) * w (ix2 n k)) * v (ix2 r 0) * ws (ix1 n) := by
  unfold KernelIdeal.Gen.k0_pay4
  rw [shapeCast_apply _ _ (ix2 r n) (ix2 r n) rfl, truncf_apply, mulf_apply, mulf_apply, column_apply (by decide), row_apply (by decide),
    asRow_apply]
  exact congrArg (· * v (ix2 r 0) * ws (ix1 n)) (product_apply x w r n)

/-- The 640 columns of the last chunk, at an index. -/
theorem chunk640_apply (v : FVec Ideal KernelIdeal.S256x1 .f32) (x : FVec Ideal KernelIdeal.S256x1920 .fp8e4m3)
    (w : FVec Ideal KernelIdeal.S640x1920 .fp8e4m3) (ws : FVec Ideal KernelIdeal.S640 .f32) (r : Fin 256) (n : Fin 640) :
    KernelIdeal.Gen.k0_pay10 v x w ws (ix2 r n) = (∑ k : Fin 1920, x (ix2 r k) * w (ix2 n k)) * v (ix2 r 0) * ws (ix1 n) := by
  unfold KernelIdeal.Gen.k0_pay10
  rw [shapeCast_apply _ _ (ix2 r n) (ix2 r n) rfl, truncf_apply, mulf_apply, mulf_apply, column_apply (by decide), row_apply (by decide),
    asRow_apply]
  exact congrArg (· * v (ix2 r 0) * ws (ix1 n)) (product_apply x w r n)

/-- The row scales, turned into a column. -/
theorem scale_apply (xs : FVec Ideal KernelIdeal.S1x256 .f32) (r : Fin 256) :
    KernelIdeal.Gen.k0_pay1 xs (ix2 r 0) = xs (ix2 0 r) := by
  unfold KernelIdeal.Gen.k0_pay1
  exact transpose_ix2_apply xs _ r 0

/-! ## The whole result -/

/-- The scaled product, at row `i` and column `n`. -/
def linear (x : FVec Ideal KernelIdeal.S256x1920 .fp8e4m3) (xs : FVec Ideal KernelIdeal.S1x256 .f32)
    (w : FVec Ideal KernelIdeal.S7808x1920 .fp8e4m3) (ws : FVec Ideal KernelIdeal.S7808 .f32) (i : Fin 256) (n : Fin 7808) : EReal :=
  (∑ k : Fin 1920, x (ix2 i k) * w (ix2 n k)) * xs (ix2 0 i) * ws (ix1 n)

section Pieces
open KernelIdeal KernelIdeal.Gen

variable (x : FVec Ideal S256x1920 .fp8e4m3) (xs : FVec Ideal S1x256 .f32) (w : FVec Ideal S7808x1920 .fp8e4m3) (ws : FVec Ideal S7808 .f32)

/-- A chunk of 1024 columns from column `o` on holds the scaled product there. -/
theorem piece1024 (o : ℕ) (hy : ∀ a, (![0, o] : Fin 2 → ℕ) a + S256x1024.size a ≤ S256x7808.size a)
    (hw : ∀ a, (![o, 0] : Fin 2 → ℕ) a + S1024x1920.size a ≤ S7808x1920.size a)
    (hs : ∀ a, (![o] : Fin 1 → ℕ) a + S1024.size a ≤ S7808.size a) (j : S256x1024.Idx) :
    Gen.k0_pay4 (Gen.k0_pay1 xs) x (View.ld (Val := Elt Ideal) (e' := .fp8e4m3) w (Rect.unit ![o, 0] S1024x1920.size hw))
        (View.ld (Val := Elt Ideal) (e' := .f32) ws (Rect.unit ![o] S1024.size hs)) j
      = linear x xs w ws ((Rect.unit (s := S256x7808) ![0, o] S256x1024.size hy).emb j 0) ((Rect.unit (s := S256x7808) ![0, o] S256x1024.size hy).emb j 1) := by
  obtain ⟨r, n, rfl⟩ : ∃ (r : Fin 256) (n : Fin 1024), j = ix2 r n := ⟨j 0, j 1, eq_ix2 j⟩
  have hc : o + 1024 ≤ 7808 := hy 1
  have e0 : (Rect.unit (s := S256x7808) ![0, o] S256x1024.size hy).emb (ix2 r n) 0 = r := Fin.ext (by
    show 0 + 1 * r.val = r.val; omega)
  have e1 : (Rect.unit (s := S256x7808) ![0, o] S256x1024.size hy).emb (ix2 r n) 1 = (⟨o + n.val, by omega⟩ : Fin 7808) := Fin.ext (by
    show o + 1 * n.val = o + n.val; omega)
  have hr : ∀ k : Fin 1920, View.ld (Val := Elt Ideal) (e' := .fp8e4m3) w (Rect.unit ![o, 0] S1024x1920.size hw) (ix2 n k)
      = w (ix2 (⟨o + n.val, by omega⟩ : Fin 7808) k) := fun k => congrArg w (by
    funext a; apply Fin.ext
    match a with
    | ⟨0, _⟩ => show o + 1 * n.val = o + n.val; omega
    | ⟨1, _⟩ => show 0 + 1 * k.val = k.val; omega)
  have hn : View.ld (Val := Elt Ideal) (e' := .f32) ws (Rect.unit ![o] S1024.size hs) (ix1 n) = ws (ix1 (⟨o + n.val, by omega⟩ : Fin 7808)) :=
    congrArg ws (by
      funext a; apply Fin.ext
      match a with
      | ⟨0, _⟩ => show o + 1 * n.val = o + n.val; omega)
  refine (chunk1024_apply _ _ _ _ r n).trans ?_
  rw [scale_apply, hn, Finset.sum_congr rfl fun k _ => congrArg (x (ix2 r k) * ·) (hr k)]
  exact (congrArg₂ (linear x xs w ws) e0 e1).symm

/-- The last chunk, of 640 columns, likewise. -/
theorem piece640 (o : ℕ) (hy : ∀ a, (![0, o] : Fin 2 → ℕ) a + S256x640.size a ≤ S256x7808.size a)
    (hw : ∀ a, (![o, 0] : Fin 2 → ℕ) a + S640x1920.size a ≤ S7808x1920.size a)
    (hs : ∀ a, (![o] : Fin 1 → ℕ) a + S640.size a ≤ S7808.size a) (j : S256x640.Idx) :
    Gen.k0_pay10 (Gen.k0_pay1 xs) x (View.ld (Val := Elt Ideal) (e' := .fp8e4m3) w (Rect.unit ![o, 0] S640x1920.size hw))
        (View.ld (Val := Elt Ideal) (e' := .f32) ws (Rect.unit ![o] S640.size hs)) j
      = linear x xs w ws ((Rect.unit (s := S256x7808) ![0, o] S256x640.size hy).emb j 0) ((Rect.unit (s := S256x7808) ![0, o] S256x640.size hy).emb j 1) := by
  obtain ⟨r, n, rfl⟩ : ∃ (r : Fin 256) (n : Fin 640), j = ix2 r n := ⟨j 0, j 1, eq_ix2 j⟩
  have hc : o + 640 ≤ 7808 := hy 1
  have e0 : (Rect.unit (s := S256x7808) ![0, o] S256x640.size hy).emb (ix2 r n) 0 = r := Fin.ext (by
    show 0 + 1 * r.val = r.val; omega)
  have e1 : (Rect.unit (s := S256x7808) ![0, o] S256x640.size hy).emb (ix2 r n) 1 = (⟨o + n.val, by omega⟩ : Fin 7808) := Fin.ext (by
    show o + 1 * n.val = o + n.val; omega)
  have hr : ∀ k : Fin 1920, View.ld (Val := Elt Ideal) (e' := .fp8e4m3) w (Rect.unit ![o, 0] S640x1920.size hw) (ix2 n k)
      = w (ix2 (⟨o + n.val, by omega⟩ : Fin 7808) k) := fun k => congrArg w (by
    funext a; apply Fin.ext
    match a with
    | ⟨0, _⟩ => show o + 1 * n.val = o + n.val; omega
    | ⟨1, _⟩ => show 0 + 1 * k.val = k.val; omega)
  have hn : View.ld (Val := Elt Ideal) (e' := .f32) ws (Rect.unit ![o] S640.size hs) (ix1 n) = ws (ix1 (⟨o + n.val, by omega⟩ : Fin 7808)) :=
    congrArg ws (by
      funext a; apply Fin.ext
      match a with
      | ⟨0, _⟩ => show o + 1 * n.val = o + n.val; omega)
  refine (chunk640_apply _ _ _ _ r n).trans ?_
  rw [scale_apply, hn, Finset.sum_congr rfl fun k _ => congrArg (x (ix2 r k) * ·) (hr k)]
  exact (congrArg₂ (linear x xs w ws) e0 e1).symm

/-- The kernel's result array is the scaled product everywhere. -/
theorem outOf_apply (y : S256x7808.Idx) : Body.outOf (F := Ideal) x xs w ws y = linear x xs w ws (y 0) (y 1) := by
  unfold Body.outOf Body.outPieces
  refine View.canon_apply_of_pieces (Val := Elt Ideal) (e := .bf16) (fun y : S256x7808.Idx => linear x xs w ws (y 0) (y 1)) _ ?_ y (Body.cover_out _ _ _ _ _ _ _ _ y)
  intro p hp
  simp only [List.mem_cons, List.not_mem_nil, or_false] at hp
  rcases hp with rfl | rfl | rfl | rfl | rfl | rfl | rfl | rfl
  · exact piece640 x xs w ws 7168 inb_S256x7808_S256x640_0_7168 _ _
  · exact piece1024 x xs w ws 6144 inb_S256x7808_S256x1024_0_6144 _ _
  · exact piece1024 x xs w ws 5120 inb_S256x7808_S256x1024_0_5120 _ _
  · exact piece1024 x xs w ws 4096 inb_S256x7808_S256x1024_0_4096 _ _
  · exact piece1024 x xs w ws 3072 inb_S256x7808_S256x1024_0_3072 _ _
  · exact piece1024 x xs w ws 2048 inb_S256x7808_S256x1024_0_2048 _ _
  · exact piece1024 x xs w ws 1024 inb_S256x7808_S256x1024_0_1024 _ _
  · exact piece1024 x xs w ws 0 inb_S256x7808_S256x1024_0_0 _ _

end Pieces

/-! ## The two programs' results -/

/-- The program's result at an index, of its arguments. -/
theorem kernel_apply (a0 : FVec Ideal KernelIdeal.S256x1x1920 .fp8e4m3) (a1 : FVec Ideal KernelIdeal.S256x1x1 .f32)
    (a2 : FVec Ideal KernelIdeal.S7808x1920 .fp8e4m3) (a3 : FVec Ideal KernelIdeal.S7808 .f32) (i : Fin 256) (n : Fin 7808) :
    KernelIdeal.Body.resultOf (F := Ideal) a0 a1 a2 a3 (ix3 i 0 n)
      = (∑ k : Fin 1920, a0 (ix3 i 0 k) * a2 (ix2 n k)) * a1 (ix3 i 0 0) * a3 (ix1 n) := by
  unfold KernelIdeal.Body.resultOf
  rw [shapeCast_apply _ _ (ix3 i 0 n) (ix2 i n) (by
    rw [Shape.rowMajor_val_two, Shape.rowMajor_val_three]
    show i.val * 7808 + n.val = (i.val * 1 + 0) * 7808 + n.val
    omega), outOf_apply]
  have hx : ∀ k : Fin 1920, shapeCast KernelIdeal.S256x1920 a0 KernelIdeal.Gen.shapeCasts_S256x1x1920_S256x1920 (ix2 i k) = a0 (ix3 i 0 k) :=
    fun k => shapeCast_apply _ _ _ _ (by
      rw [Shape.rowMajor_val_two, Shape.rowMajor_val_three]
      show (i.val * 1 + 0) * 1920 + k.val = i.val * 1920 + k.val
      omega)
  have hs : shapeCast KernelIdeal.S1x256 a1 KernelIdeal.Gen.shapeCasts_S256x1x1_S1x256 (ix2 0 i) = a1 (ix3 i 0 0) :=
    shapeCast_apply _ _ _ _ (by
      rw [Shape.rowMajor_val_two, Shape.rowMajor_val_three]
      show (i.val * 1 + 0) * 1 + 0 = 0 * 256 + i.val
      omega)
  unfold linear
  simp only [hx, hs]

/-- The reference's product at an index: the axis of size 1 is kept. -/
theorem ref_product_apply (a0 : FVec Ideal ReferenceIdeal.S256x1x1920 .fp8e4m3) (a2 : FVec Ideal ReferenceIdeal.S7808x1920 .fp8e4m3)
    (i : Fin 256) (n : Fin 7808) :
    FloatOps.matmul (F := Ideal) ReferenceIdeal.dot_S256x1x1920_S7808x1920_S256x1x7808_2_1_01_0_n_n none a0 a2
        (constant ReferenceIdeal.S256x1x7808 .f32 0x00000000#32) (ix3 i 0 n)
      = ∑ k : Fin 1920, a0 (ix3 i 0 k) * a2 (ix2 n k) := by
  rw [Ideal.matmul_constant_zero_apply,
    ← Equiv.sum_comp (contrEquiv1 ReferenceIdeal.dot_S256x1x1920_S7808x1920_S256x1x7808_2_1_01_0_n_n 1920 rfl rfl).symm]
  refine Finset.sum_congr rfl fun k _ => ?_
  have hk := contrEquiv1_symm_val ReferenceIdeal.dot_S256x1x1920_S7808x1920_S256x1x7808_2_1_01_0_n_n 1920 rfl rfl k
  refine congrArg₂ (· * ·) (congrArg a0 ?_) (congrArg a2 ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk

/-- The reference's result at an index, of its arguments. -/
theorem reference_apply (a0 : FVec Ideal ReferenceIdeal.S256x1x1920 .fp8e4m3) (a1 : FVec Ideal ReferenceIdeal.S256x1x1 .f32)
    (a2 : FVec Ideal ReferenceIdeal.S7808x1920 .fp8e4m3) (a3 : FVec Ideal ReferenceIdeal.S7808 .f32) (i : Fin 256) (n : Fin 7808) :
    ReferenceIdeal.Value.G4 (F := Ideal) a0 a1 a2 a3 (ix3 i 0 n)
      = (∑ k : Fin 1920, a0 (ix3 i 0 k) * a2 (ix2 n k)) * a1 (ix3 i 0 0) * a3 (ix1 n) := by
  unfold ReferenceIdeal.Value.G4 ReferenceIdeal.Gen.k0_pay1
  rw [truncf_apply, mulf_apply, mulf_apply,
    broadcastTo_apply a1 _ (ix3 i 0 n) (ix3 i 0 0) (fun a => by
      match a with
      | ⟨0, _⟩ => exact (if_neg (show ¬ (256 : ℕ) = 1 by decide)).symm
      | ⟨1, _⟩ => exact (if_pos rfl).symm
      | ⟨2, _⟩ => exact (if_pos rfl).symm),
    broadcastTo_apply _ _ (ix3 i 0 n) (ix3 0 0 n) (fun a => by
      match a with
      | ⟨0, _⟩ => exact (if_pos rfl).symm
      | ⟨1, _⟩ => exact (if_pos rfl).symm
      | ⟨2, _⟩ => exact (if_neg (show ¬ (7808 : ℕ) = 1 by decide)).symm),
    shapeCast_apply a3 _ (ix3 0 0 n) (ix1 n) (by
      rw [Shape.rowMajor_val_one, Shape.rowMajor_val_three]
      show n.val = (0 * 1 + 0) * 7808 + n.val
      omega)]
  exact congrArg (· * a1 (ix3 i 0 0) * a3 (ix1 n)) (ref_product_apply a0 a2 i n)

/-- THE EQUATION: of the same arguments, the two programs' results are equal. -/
theorem equal (a0 : FVec Ideal KernelIdeal.S256x1x1920 .fp8e4m3) (a1 : FVec Ideal KernelIdeal.S256x1x1 .f32)
    (a2 : FVec Ideal KernelIdeal.S7808x1920 .fp8e4m3) (a3 : FVec Ideal KernelIdeal.S7808 .f32) :
    ReferenceIdeal.Value.G4 (F := Ideal) a0 a1 a2 a3 = KernelIdeal.Body.resultOf (F := Ideal) a0 a1 a2 a3 := by
  funext j
  have hj : j = ix3 (j 0) 0 (j 2) := by
    funext a; apply Fin.ext
    match a with
    | ⟨0, _⟩ => rfl
    | ⟨1, _⟩ => exact Nat.lt_one_iff.mp (j 1).isLt
    | ⟨2, _⟩ => rfl
  rw [hj]
  exact (reference_apply a0 a1 a2 a3 (j 0) (j 2)).trans (kernel_apply a0 a1 a2 a3 (j 0) (j 2)).symm

end Cert.Equation

end
-- ==== Proof.lean ====
module

public import proofs.«01_k».proof.Proof.Run
public import proofs.«01_k».proof.Proof.IdealRun
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem

/-- The program over the chip's own bits ends with its arguments kept and its semaphores at zero. -/
theorem kernel_frame : Cert.quiescent_Kernel :=
  fun m g _ => (θ_run ..).mono (fun _ h => ⟨fun c => (h.1 c).2, h.2⟩) (Cert.Kernel.Body.run_main m g)

/-- So does the program over the extended reals. -/
theorem kernelIdeal_frame : Cert.quiescent_KernelIdeal :=
  fun m g _ => (θ_run ..).mono (fun _ h => ⟨fun c => (h.1 c).2, h.2⟩) (Cert.KernelIdeal.Body.run_main m g)

/-- And so does the reference. -/
theorem referenceIdeal_frame : Cert.quiescent_ReferenceIdeal :=
  fun m g _ => Cert.ReferenceIdeal.Gen.frame m g

/-- From equal arguments the program and the reference end with equal results. -/
theorem algebraic : Cert.algebraic_KernelIdeal_ReferenceIdeal := fun m g m' g' _ hagree =>
  ⟨_, (θ_run ..).mono (fun _ h c => h.1 c) (Cert.KernelIdeal.Body.run_main m g),
    (θ_run ..).mono (fun _ h c => ⟨(h c).1.trans (by
      obtain ⟨h0, h1, h2, h3⟩ := hagree c
      rw [h0, h1, h2, h3]
      exact Cert.Equation.equal _ _ _ _), (h c).2⟩) (Cert.ReferenceIdeal.Value.run m' g')⟩

theorem claim : Cert.Claim :=
  ⟨Cert.Kernel.Gen.facts, Cert.KernelIdeal.Gen.facts, Cert.ReferenceIdeal.Gen.facts,
    kernel_frame, kernelIdeal_frame, referenceIdeal_frame, trivial, algebraic⟩

end Cert.Proof

end
